-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S16x16x256 : Shape := ⟨3, ![16, 16, 256]⟩
abbrev S16x256 : Shape := ⟨2, ![16, 256]⟩
abbrev S16 : Shape := ⟨1, ![16]⟩
abbrev S_ : Shape := ⟨0, ![]⟩
abbrev S1 : Shape := ⟨1, ![1]⟩
abbrev S1x16x256 : Shape := ⟨3, ![1, 16, 256]⟩
abbrev S8x16x256 : Shape := ⟨3, ![8, 16, 256]⟩
abbrev S4x16x256 : Shape := ⟨3, ![4, 16, 256]⟩
abbrev S2x16x256 : Shape := ⟨3, ![2, 16, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S16x16x256, .f32⟩
  | .local _ .vmem, ⟨3, _⟩ => ⟨S16x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_off1 (d0 : Dev nD) (c15_i32_46 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v49 : BitVec 32 := Scalar.xori v2 c15_i32_46
  let c16_i32_47 : BitVec 32 := 16#32
  let v50 : BitVec 32 := Scalar.muli v49 c16_i32_47
  let c0_i32_55 : BitVec 32 := 0#32
  ![v50.toNat, 0]
def k0_dev16 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_46 : BitVec 32 := 15#32
  let v49 : BitVec 32 := Scalar.xori v2 c15_i32_46
  let c1_i32_51 : BitVec 32 := 1#32
  let v51 : BitVec 32 := Scalar.muli v49 c1_i32_51
  let v52 : BitVec 32 := Scalar.addi c0_i32_52 v51
  v52.toNat
def k0_dev17 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_56 : BitVec 32 := 14#32
  let v60 : BitVec 32 := Scalar.xori v2 c14_i32_56
  let c1_i32_61 : BitVec 32 := 1#32
  let v62 : BitVec 32 := Scalar.muli v60 c1_i32_61
  let v63 : BitVec 32 := Scalar.addi c0_i32_62 v62
  v63.toNat
def k0_dev18 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_66 : BitVec 32 := 13#32
  let v71 : BitVec 32 := Scalar.xori v2 c13_i32_66
  let c1_i32_71 : BitVec 32 := 1#32
  let v73 : BitVec 32 := Scalar.muli v71 c1_i32_71
  let v74 : BitVec 32 := Scalar.addi c0_i32_72 v73
  v74.toNat
def k0_dev19 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_76 : BitVec 32 := 12#32
  let v82 : BitVec 32 := Scalar.xori v2 c12_i32_76
  let c1_i32_81 : BitVec 32 := 1#32
  let v84 : BitVec 32 := Scalar.muli v82 c1_i32_81
  let v85 : BitVec 32 := Scalar.addi c0_i32_82 v84
  v85.toNat
def k0_dev20 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_86 : BitVec 32 := 11#32
  let v93 : BitVec 32 := Scalar.xori v2 c11_i32_86
  let c1_i32_91 : BitVec 32 := 1#32
  let v95 : BitVec 32 := Scalar.muli v93 c1_i32_91
  let v96 : BitVec 32 := Scalar.addi c0_i32_92 v95
  v96.toNat
def k0_dev21 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_96 : BitVec 32 := 10#32
  let v104 : BitVec 32 := Scalar.xori v2 c10_i32_96
  let c1_i32_101 : BitVec 32 := 1#32
  let v106 : BitVec 32 := Scalar.muli v104 c1_i32_101
  let v107 : BitVec 32 := Scalar.addi c0_i32_102 v106
  v107.toNat
def k0_dev22 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_106 : BitVec 32 := 9#32
  let v115 : BitVec 32 := Scalar.xori v2 c9_i32_106
  let c1_i32_111 : BitVec 32 := 1#32
  let v117 : BitVec 32 := Scalar.muli v115 c1_i32_111
  let v118 : BitVec 32 := Scalar.addi c0_i32_112 v117
  v118.toNat
def k0_dev23 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_116 : BitVec 32 := 8#32
  let v126 : BitVec 32 := Scalar.xori v2 c8_i32_116
  let c1_i32_121 : BitVec 32 := 1#32
  let v128 : BitVec 32 := Scalar.muli v126 c1_i32_121
  let v129 : BitVec 32 := Scalar.addi c0_i32_122 v128
  v129.toNat
def k0_dev24 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_126 : BitVec 32 := 7#32
  let v137 : BitVec 32 := Scalar.xori v2 c7_i32_126
  let c1_i32_131 : BitVec 32 := 1#32
  let v139 : BitVec 32 := Scalar.muli v137 c1_i32_131
  let v140 : BitVec 32 := Scalar.addi c0_i32_132 v139
  v140.toNat
def k0_dev25 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_136 : BitVec 32 := 6#32
  let v148 : BitVec 32 := Scalar.xori v2 c6_i32_136
  let c1_i32_141 : BitVec 32 := 1#32
  let v150 : BitVec 32 := Scalar.muli v148 c1_i32_141
  let v151 : BitVec 32 := Scalar.addi c0_i32_142 v150
  v151.toNat
def k0_dev26 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_146 : BitVec 32 := 5#32
  let v159 : BitVec 32 := Scalar.xori v2 c5_i32_146
  let c1_i32_151 : BitVec 32 := 1#32
  let v161 : BitVec 32 := Scalar.muli v159 c1_i32_151
  let v162 : BitVec 32 := Scalar.addi c0_i32_152 v161
  v162.toNat
def k0_dev27 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_156 : BitVec 32 := 4#32
  let v170 : BitVec 32 := Scalar.xori v2 c4_i32_156
  let c1_i32_161 : BitVec 32 := 1#32
  let v172 : BitVec 32 := Scalar.muli v170 c1_i32_161
  let v173 : BitVec 32 := Scalar.addi c0_i32_162 v172
  v173.toNat
def k0_dev28 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_166 : BitVec 32 := 3#32
  let v181 : BitVec 32 := Scalar.xori v2 c3_i32_166
  let c1_i32_171 : BitVec 32 := 1#32
  let v183 : BitVec 32 := Scalar.muli v181 c1_i32_171
  let v184 : BitVec 32 := Scalar.addi c0_i32_172 v183
  v184.toNat
def k0_dev29 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_176 : BitVec 32 := 2#32
  let v192 : BitVec 32 := Scalar.xori v2 c2_i32_176
  let c1_i32_181 : BitVec 32 := 1#32
  let v194 : BitVec 32 := Scalar.muli v192 c1_i32_181
  let v195 : BitVec 32 := Scalar.addi c0_i32_182 v194
  v195.toNat
def k0_dev30 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_186 : BitVec 32 := 1#32
  let v203 : BitVec 32 := Scalar.xori v2 c1_i32_186
  let c1_i32_191 : BitVec 32 := 1#32
  let v205 : BitVec 32 := Scalar.muli v203 c1_i32_191
  let v206 : BitVec 32 := Scalar.addi c0_i32_192 v205
  v206.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_196 : BitVec 32 := 16#32
  let v214 : BitVec 32 := Scalar.muli v2 c16_i32_196
  let v215 : Index := Scalar.indexCast v214
  let c0 : Index := 0#32
  ![v215.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_352 : BitVec 32 := 16#32
  let v353 : BitVec 32 := Scalar.muli v2 c16_i32_352
  let c0_i32_357 : BitVec 32 := 0#32
  ![v353.toNat, 0]
def k0_dev31 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_351 : BitVec 32 := 15#32
  let v352 : BitVec 32 := Scalar.xori v2 c15_i32_351
  let c1_i32_355 : BitVec 32 := 1#32
  let v354 : BitVec 32 := Scalar.muli v352 c1_i32_355
  let v355 : BitVec 32 := Scalar.addi c0_i32_356 v354
  v355.toNat
def k0_dev32 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_358 : BitVec 32 := 14#32
  let v361 : BitVec 32 := Scalar.xori v2 c14_i32_358
  let c1_i32_362 : BitVec 32 := 1#32
  let v363 : BitVec 32 := Scalar.muli v361 c1_i32_362
  let v364 : BitVec 32 := Scalar.addi c0_i32_363 v363
  v364.toNat
def k0_dev33 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_365 : BitVec 32 := 13#32
  let v370 : BitVec 32 := Scalar.xori v2 c13_i32_365
  let c1_i32_369 : BitVec 32 := 1#32
  let v372 : BitVec 32 := Scalar.muli v370 c1_i32_369
  let v373 : BitVec 32 := Scalar.addi c0_i32_370 v372
  v373.toNat
def k0_dev34 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_372 : BitVec 32 := 12#32
  let v379 : BitVec 32 := Scalar.xori v2 c12_i32_372
  let c1_i32_376 : BitVec 32 := 1#32
  let v381 : BitVec 32 := Scalar.muli v379 c1_i32_376
  let v382 : BitVec 32 := Scalar.addi c0_i32_377 v381
  v382.toNat
def k0_dev35 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_379 : BitVec 32 := 11#32
  let v388 : BitVec 32 := Scalar.xori v2 c11_i32_379
  let c1_i32_383 : BitVec 32 := 1#32
  let v390 : BitVec 32 := Scalar.muli v388 c1_i32_383
  let v391 : BitVec 32 := Scalar.addi c0_i32_384 v390
  v391.toNat
def k0_dev36 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_386 : BitVec 32 := 10#32
  let v397 : BitVec 32 := Scalar.xori v2 c10_i32_386
  let c1_i32_390 : BitVec 32 := 1#32
  let v399 : BitVec 32 := Scalar.muli v397 c1_i32_390
  let v400 : BitVec 32 := Scalar.addi c0_i32_391 v399
  v400.toNat
def k0_dev37 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_393 : BitVec 32 := 9#32
  let v406 : BitVec 32 := Scalar.xori v2 c9_i32_393
  let c1_i32_397 : BitVec 32 := 1#32
  let v408 : BitVec 32 := Scalar.muli v406 c1_i32_397
  let v409 : BitVec 32 := Scalar.addi c0_i32_398 v408
  v409.toNat
def k0_dev38 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_400 : BitVec 32 := 8#32
  let v415 : BitVec 32 := Scalar.xori v2 c8_i32_400
  let c1_i32_404 : BitVec 32 := 1#32
  let v417 : BitVec 32 := Scalar.muli v415 c1_i32_404
  let v418 : BitVec 32 := Scalar.addi c0_i32_405 v417
  v418.toNat
def k0_dev39 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_407 : BitVec 32 := 7#32
  let v424 : BitVec 32 := Scalar.xori v2 c7_i32_407
  let c1_i32_411 : BitVec 32 := 1#32
  let v426 : BitVec 32 := Scalar.muli v424 c1_i32_411
  let v427 : BitVec 32 := Scalar.addi c0_i32_412 v426
  v427.toNat
def k0_dev40 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_414 : BitVec 32 := 6#32
  let v433 : BitVec 32 := Scalar.xori v2 c6_i32_414
  let c1_i32_418 : BitVec 32 := 1#32
  let v435 : BitVec 32 := Scalar.muli v433 c1_i32_418
  let v436 : BitVec 32 := Scalar.addi c0_i32_419 v435
  v436.toNat
def k0_dev41 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_421 : BitVec 32 := 5#32
  let v442 : BitVec 32 := Scalar.xori v2 c5_i32_421
  let c1_i32_425 : BitVec 32 := 1#32
  let v444 : BitVec 32 := Scalar.muli v442 c1_i32_425
  let v445 : BitVec 32 := Scalar.addi c0_i32_426 v444
  v445.toNat
def k0_dev42 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_428 : BitVec 32 := 4#32
  let v451 : BitVec 32 := Scalar.xori v2 c4_i32_428
  let c1_i32_432 : BitVec 32 := 1#32
  let v453 : BitVec 32 := Scalar.muli v451 c1_i32_432
  let v454 : BitVec 32 := Scalar.addi c0_i32_433 v453
  v454.toNat
def k0_dev43 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_435 : BitVec 32 := 3#32
  let v460 : BitVec 32 := Scalar.xori v2 c3_i32_435
  let c1_i32_439 : BitVec 32 := 1#32
  let v462 : BitVec 32 := Scalar.muli v460 c1_i32_439
  let v463 : BitVec 32 := Scalar.addi c0_i32_440 v462
  v463.toNat
def k0_dev44 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_442 : BitVec 32 := 2#32
  let v469 : BitVec 32 := Scalar.xori v2 c2_i32_442
  let c1_i32_446 : BitVec 32 := 1#32
  let v471 : BitVec 32 := Scalar.muli v469 c1_i32_446
  let v472 : BitVec 32 := Scalar.addi c0_i32_447 v471
  v472.toNat
def k0_dev45 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let v478 : BitVec 32 := Scalar.xori v2 c1_i32_449
  let c1_i32_453 : BitVec 32 := 1#32
  let v480 : BitVec 32 := Scalar.muli v478 c1_i32_453
  let v481 : BitVec 32 := Scalar.addi c0_i32_454 v480
  v481.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S16x256x256 : Shape := ⟨3, ![16, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16x256x256, .f32⟩
  | .hbm, ⟨2, _⟩ => ⟨S_, .f32⟩
  | .hbm, ⟨3, _⟩ => ⟨S256x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealSteps.lean ====
/-
  The kernel's body as five kinds of step taken in loops.

  The printed body is a straight line: 15 signals, one wait, 15 copies of the reduce-scatter, the waits for them, the sum
  of 16 slots, 15 copies of the all-gather, the waits for them, and the waits for the copies' sources. Here each kind of
  step is written ONCE, at a symbolic device and a symbolic distance `1 + r` (`r : Fin 15`), and the body is the loops over
  the distances; `body_eq` says that the printed body is that.
-/
module

public import proofs.«01_k».proof.Proof.Gen.KernelIdeal
public import proofs.«01_k».proof.Proof.Gen.KernelIdeal.Skeleton
public import Idealize.ShloMosaic.Lib.Pipeline.Regions

@[expose] public section

set_option maxRecDepth 16384

noncomputable section

namespace Cert.KernelIdealProof

open Cert.KernelIdeal Cert.KernelIdeal.Gen

open Idealize.ShloMosaic
open Idealize.SL.Sem

variable {F : FTy → Type} [FloatOps F]

/-! ## The peers, the slices and the semaphores at a symbolic distance -/

/-- The number of the device at distance `w` from `c` (its number with the bits of `w` flipped), as the kernel computes it. -/
def peerNat (c : Dev nD) (w : BitVec 32) : ℕ :=
  (Scalar.addi 0#32 (Scalar.muli (Scalar.xori (Scalar.remsi (Scalar.divsi (Dev.word c) 1#32) 16#32) w) 1#32)).toNat

/-- The distance number `r` of a loop as the kernel's word: `1 + r`. -/
abbrev distW (r : Fin 15) : BitVec 32 := BitVec.ofNat 32 (1 + r.val)

/-- It is a device of the mesh. -/
theorem peerNat_lt : ∀ (c : Dev nD) (r : Fin 15), peerNat c (distW r) < nD := by decide +kernel

/-- The device at distance `1 + r` from `c`. -/
def peer (c : Dev nD) (r : Fin 15) : Dev nD := ⟨peerNat c (distW r), peerNat_lt c r⟩

/-- One semaphore of a row of 16. -/
theorem inb_sem (r : Fin 15) : ∀ a, (![1 + r.val] : Fin 1 → Nat) a + S1.size a ≤ S16.size a := by revert r; decide

/-- One slot of the 16 landing slots. -/
theorem inb_slot (r : Fin 15) : ∀ a, (![1 + r.val, 0, 0] : Fin 3 → Nat) a + S1x16x256.size a ≤ S16x16x256.size a := by revert r; decide

/-- The semaphore of a row of 16 that belongs to distance `1 + r`. -/
abbrev semAt (a : DmaSems sig S16) (r : Fin 15) : DmaSem sig :=
  ((a.slice (Rect.unit (s := S16) ![1 + r.val] S1.size (inb_sem r))).squeeze S_ squeezes_S1_S_).sem

/-- The landing slot of distance `1 + r`. -/
abbrev slotM (arg2 : Memref sig .tc .vmem S16x16x256 .f32) (r : Fin 15) : Memref sig .tc .vmem S16x256 .f32 :=
  (arg2.slice (Rect.unit (s := S16x16x256) ![1 + r.val, 0, 0] S1x16x256.size (inb_slot r)) (fun _ => rfl)).squeeze S16x256 squeezes_S1x16x256_S16x256

/-- The rows of the operand that the device at distance `1 + r` reduces. -/
abbrev rowsM (arg0 : Memref sig .tc .vmem S256x256 .f32) (c : Dev nD) (r : Fin 15) : Memref sig .tc .vmem S16x256 .f32 :=
  arg0.slice (Rect.unit (s := S256x256) (k0_off1 c (distW r)) S16x256.size (k0_off1_inb c r)) (fun _ => rfl)

/-- The rows of the result that device `c` reduces. -/
abbrev ownM (arg1 : Memref sig .tc .vmem S256x256 .f32) (c : Dev nD) : Memref sig .tc .vmem S16x256 .f32 :=
  arg1.slice (Rect.unit (s := S256x256) (k0_off3 c) S16x256.size (k0_off3_inb c)) (fun _ => rfl)

/-! ## The steps -/

/-- A kernel program at the effects of one core. -/
abbrev Pg (F : FTy → Type) [FloatOps F] := Prog (TpuEff nD τ sig (Elt F) Λ₀ .tc)

/-- One program after another, one for each element of a list. -/
def forEach {D : Type} (f : D → Pg F PUnit) : List D → Pg F PUnit
  | [] => pure ⟨⟩
  | r :: l => f r >>= fun _ => forEach f l

/-- The distances upwards. -/
abbrev up : List (Fin 15) := [0, 1, 2, 3, 4, 5, 6, 7, 8, 9, 10, 11, 12, 13, 14]
/-- The distances downwards. -/
abbrev down : List (Fin 15) := [14, 13, 12, 11, 10, 9, 8, 7, 6, 5, 4, 3, 2, 1, 0]

/-- The runtime's barrier semaphore. -/
abbrev barS : Sem sig := (SemArray.scalar (sig.barrier 0 rfl) : Sems sig S_).sem

/-- Signal the barrier of the device at distance `1 + r`. -/
def signalStep (c : Dev nD) (r : Fin 15) : Pg F PUnit := semSignalWord (peer c r) barS 1#32

/-- Send the operand's rows of the device at distance `1 + r` into its landing slot. -/
def scatterStep (arg0 : Memref sig .tc .vmem S256x256 .f32) (arg2 : Memref sig .tc .vmem S16x16x256 .f32) (arg4 arg5 : DmaSems sig S16)
    (c : Dev nD) (r : Fin 15) : Pg F PUnit :=
  Prog.lift (.enqueueDma (rowsM arg0 c r) (.remote (Dev.tc (peer c r)) (slotM arg2 r) (.dma (semAt arg4 r))) (.dma (semAt arg5 r))
    (View.wordExact_bits rfl) ((View.wordExact_bits rfl).reshape _ _) ⟨⟨rfl, Or.inl rfl⟩, trivial⟩)

/-- Wait for the landing in the slot of distance `1 + r`. -/
def scatterRecv (arg0 : Memref sig .tc .vmem S256x256 .f32) (arg2 : Memref sig .tc .vmem S16x16x256 .f32) (arg5 : DmaSems sig S16)
    (c : Dev nD) (r : Fin 15) : Pg F PUnit :=
  Prog.lift (.waitDma2 (semAt arg5 r) (rowsM arg0 c r) (slotM arg2 r) (View.wordExact_bits rfl) ((View.wordExact_bits rfl).reshape _ _))

/-- Wait until the operand's rows sent to distance `1 + r` have been read. -/
def scatterSent (arg0 : Memref sig .tc .vmem S256x256 .f32) (arg2 : Memref sig .tc .vmem S16x16x256 .f32) (arg4 : DmaSems sig S16)
    (c : Dev nD) (r : Fin 15) : Pg F PUnit :=
  Prog.lift (.waitDma2 (semAt arg4 r) (slotM arg2 r) (rowsM arg0 c r) ((View.wordExact_bits rfl).reshape _ _) (View.wordExact_bits rfl))

/-- Send the reduced rows into the result of the device at distance `1 + r`. -/
def gatherStep (arg1 : Memref sig .tc .vmem S256x256 .f32) (arg3 : Memref sig .tc .vmem S16x256 .f32) (harg3 : arg3.IsWhole) (arg6 arg7 : DmaSems sig S16)
    (c : Dev nD) (r : Fin 15) : Pg F PUnit :=
  Prog.lift (.enqueueDma arg3 (.remote (Dev.tc (peer c r)) (ownM arg1 c) (.dma (semAt arg6 r))) (.dma (semAt arg7 r))
    harg3.wordExact (View.wordExact_bits rfl) ⟨⟨rfl, Or.inl rfl⟩, trivial⟩)

/-- Wait for the reduced rows of the device at distance `1 + r`. -/
def gatherRecv (arg1 : Memref sig .tc .vmem S256x256 .f32) (arg3 : Memref sig .tc .vmem S16x256 .f32) (harg3 : arg3.IsWhole) (arg7 : DmaSems sig S16)
    (c : Dev nD) (r : Fin 15) : Pg F PUnit :=
  Prog.lift (.waitDma2 (semAt arg7 r) arg3 (ownM arg1 c) harg3.wordExact (View.wordExact_bits rfl))

/-- Wait until the reduced rows sent to distance `1 + r` have been read. -/
def gatherSent (arg1 : Memref sig .tc .vmem S256x256 .f32) (arg3 : Memref sig .tc .vmem S16x256 .f32) (harg3 : arg3.IsWhole) (arg6 : DmaSems sig S16)
    (c : Dev nD) (r : Fin 15) : Pg F PUnit :=
  Prog.lift (.waitDma2 (semAt arg6 r) (ownM arg1 c) arg3 (View.wordExact_bits rfl) harg3.wordExact)

/-- The device's own contribution: its operand's own rows into slot 0. -/
def ownStep (arg0 : Memref sig .tc .vmem S256x256 .f32) (arg2 : Memref sig .tc .vmem S16x16x256 .f32) (c : Dev nD) : Pg F PUnit := do
  let v ← Prog.lift (.load arg0 (Rect.unit (s := S256x256) (k0_off2 c) S16x256.size (k0_off2_inb c)).toLoadRect (View.loadsAt_vmem h_S16x256))
  let _ ← Prog.lift (.load arg2 (Rect.unit (s := S16x16x256) ![0, 0, 0] S1x16x256.size inb_S16x16x256_S1x16x256_0_0_0).toLoadRect (View.loadsAt_vmem h_S1x16x256))
  Prog.lift (.store arg2 (Rect.unit (s := S16x16x256) ![0, 0, 0] S1x16x256.size inb_S16x16x256_S1x16x256_0_0_0) (k0_pay1 v) Finset.univ (View.stores_vmem_bits_univ h_S1x16x256 rfl) (.inl rfl))

/-- The sum of the 16 slots, halving the number of slots four times. -/
def sumStep (arg2 : Memref sig .tc .vmem S16x16x256 .f32) (arg3 : Memref sig .tc .vmem S16x256 .f32) : Pg F PUnit := do
  let v326 ← Prog.lift (.load arg2 (Rect.unit (s := S16x16x256) ![0, 0, 0] S8x16x256.size inb_S16x16x256_S8x16x256_0_0_0).toLoadRect (View.loadsAt_vmem h_S8x16x256))
  let v327 ← Prog.lift (.load arg2 (Rect.unit (s := S16x16x256) ![8, 0, 0] S8x16x256.size inb_S16x16x256_S8x16x256_8_0_0).toLoadRect (View.loadsAt_vmem h_S8x16x256))
  let _ ← Prog.lift (.load arg2 (Rect.unit (s := S16x16x256) ![0, 0, 0] S8x16x256.size inb_S16x16x256_S8x16x256_0_0_0).toLoadRect (View.loadsAt_vmem h_S8x16x256))
  Prog.lift (.store arg2 (Rect.unit (s := S16x16x256) ![0, 0, 0] S8x16x256.size inb_S16x16x256_S8x16x256_0_0_0) (k0_pay2 v326 v327) Finset.univ (View.stores_vmem_bits_univ h_S8x16x256 rfl) (.inl rfl))
  let v332 ← Prog.lift (.load arg2 (Rect.unit (s := S16x16x256) ![0, 0, 0] S4x16x256.size inb_S16x16x256_S4x16x256_0_0_0).toLoadRect (View.loadsAt_vmem h_S4x16x256))
  let v333 ← Prog.lift (.load arg2 (Rect.unit (s := S16x16x256) ![4, 0, 0] S4x16x256.size inb_S16x16x256_S4x16x256_4_0_0).toLoadRect (View.loadsAt_vmem h_S4x16x256))
  let _ ← Prog.lift (.load arg2 (Rect.unit (s := S16x16x256) ![0, 0, 0] S4x16x256.size inb_S16x16x256_S4x16x256_0_0_0).toLoadRect (View.loadsAt_vmem h_S4x16x256))
  Prog.lift (.store arg2 (Rect.unit (s := S16x16x256) ![0, 0, 0] S4x16x256.size inb_S16x16x256_S4x16x256_0_0_0) (k0_pay3 v332 v333) Finset.univ (View.stores_vmem_bits_univ h_S4x16x256 rfl) (.inl rfl))
  let v338 ← Prog.lift (.load arg2 (Rect.unit (s := S16x16x256) ![0, 0, 0] S2x16x256.size inb_S16x16x256_S2x16x256_0_0_0).toLoadRect (View.loadsAt_vmem h_S2x16x256))
  let v339 ← Prog.lift (.load arg2 (Rect.unit (s := S16x16x256) ![2, 0, 0] S2x16x256.size inb_S16x16x256_S2x16x256_2_0_0).toLoadRect (View.loadsAt_vmem h_S2x16x256))
  let _ ← Prog.lift (.load arg2 (Rect.unit (s := S16x16x256) ![0, 0, 0] S2x16x256.size inb_S16x16x256_S2x16x256_0_0_0).toLoadRect (View.loadsAt_vmem h_S2x16x256))
  Prog.lift (.store arg2 (Rect.unit (s := S16x16x256) ![0, 0, 0] S2x16x256.size inb_S16x16x256_S2x16x256_0_0_0) (k0_pay4 v338 v339) Finset.univ (View.stores_vmem_bits_univ h_S2x16x256 rfl) (.inl rfl))
  let v344 ← Prog.lift (.load arg2 (Rect.unit (s := S16x16x256) ![0, 0, 0] S1x16x256.size inb_S16x16x256_S1x16x256_0_0_0).toLoadRect (View.loadsAt_vmem h_S1x16x256))
  let v346 ← Prog.lift (.load arg2 (Rect.unit (s := S16x16x256) ![1, 0, 0] S1x16x256.size inb_S16x16x256_S1x16x256_1_0_0).toLoadRect (View.loadsAt_vmem h_S1x16x256))
  let _ ← Prog.lift (.load arg3 (Rect.unit (s := S16x256) ![0, 0] S16x256.size inb_S16x256_S16x256_0_0).toLoadRect (View.loadsAt_vmem h_S16x256))
  Prog.lift (.store arg3 (Rect.unit (s := S16x256) ![0, 0] S16x256.size inb_S16x256_S16x256_0_0) (k0_pay5 v344 v346) Finset.univ (View.stores_vmem_bits_univ h_S16x256 rfl) (.inl rfl))

/-- The device's own share of the result: the reduced rows into its own rows. -/
def outStep (arg1 : Memref sig .tc .vmem S256x256 .f32) (arg3 : Memref sig .tc .vmem S16x256 .f32) (c : Dev nD) : Pg F PUnit := do
  let v ← Prog.lift (.load arg3 (Rect.unit (s := S16x256) ![0, 0] S16x256.size inb_S16x256_S16x256_0_0).toLoadRect (View.loadsAt_vmem h_S16x256))
  let _ ← Prog.lift (.load arg1 (Rect.unit (s := S256x256) (k0_off2 c) S16x256.size (k0_off2_inb c)).toLoadRect (View.loadsAt_vmem h_S16x256))
  Prog.lift (.store arg1 (Rect.unit (s := S256x256) (k0_off2 c) S16x256.size (k0_off2_inb c)) v Finset.univ (View.stores_vmem_bits_univ h_S16x256 rfl) (.inl rfl))

/-- The body of device `c`, in loops. -/
def bodyOf (arg0 : Memref sig .tc .vmem S256x256 .f32) (arg1 : Memref sig .tc .vmem S256x256 .f32) (arg2 : Memref sig .tc .vmem S16x16x256 .f32)
    (arg3 : Memref sig .tc .vmem S16x256 .f32) (harg3 : arg3.IsWhole) (arg4 arg5 arg6 arg7 : DmaSems sig S16) (c : Dev nD) : Pg F PUnit :=
  forEach (signalStep c) up >>= fun _ =>
  semWaitWord barS 15#32 >>= fun _ =>
  forEach (scatterStep arg0 arg2 arg4 arg5 c) down >>= fun _ =>
  ownStep arg0 arg2 c >>= fun _ =>
  forEach (scatterRecv arg0 arg2 arg5 c) up >>= fun _ =>
  sumStep arg2 arg3 >>= fun _ =>
  forEach (gatherStep arg1 arg3 harg3 arg6 arg7 c) down >>= fun _ =>
  outStep arg1 arg3 c >>= fun _ =>
  forEach (gatherRecv arg1 arg3 harg3 arg7 c) down >>= fun _ =>
  forEach (scatterSent arg0 arg2 arg4 c) up >>= fun _ =>
  forEach (gatherSent arg1 arg3 harg3 arg6 c) down

set_option maxRecDepth 65536 in
/-- The printed body reads the device's number and is then the loops. -/
theorem body_eq (arg0 : Memref sig .tc .vmem S256x256 .f32) (harg0 : arg0.IsWhole) (arg1 : Memref sig .tc .vmem S256x256 .f32) (harg1 : arg1.IsWhole)
    (arg2 : Memref sig .tc .vmem S16x16x256 .f32) (harg2 : arg2.IsWhole) (arg3 : Memref sig .tc .vmem S16x256 .f32) (harg3 : arg3.IsWhole)
    (arg4 arg5 arg6 arg7 : DmaSems sig S16) :
    cc0_body (F := F) arg0 harg0 arg1 harg1 arg2 harg2 arg3 harg3 arg4 arg5 arg6 arg7
      = (.op .deviceId fun c => bodyOf arg0 arg1 arg2 arg3 harg3 arg4 arg5 arg6 arg7 c) := by
  rw [cc0_body_eq_skeleton]
  chain_rfl

end Cert.KernelIdealProof

end
-- ==== Proof.KernelIdealProtocol.lean ====
/-
  The protocol between the 16 devices, as a schedule of rounds.

  Device `c` and the device at distance `1 + r` from it, `peer c r`, are each other's `r`-th peer. Every device has 61
  cells: its barrier and, for each of four rows of semaphores, one cell for each distance:

    barrier        15 duties of one unit; duty `r`, paid by `peer c r`, hands `c` the landing slot of distance `1 + r` and the
                   rows of the result, both on `peer c r`, that `c` will write: what its two copies to `peer c r` need;
    row 0, cell r  the source of `c`'s copy of the reduce-scatter to `peer c r` has been read: its operand's rows come back;
    row 1, cell r  `peer c r`'s copy of the reduce-scatter has landed: `c`'s slot of distance `1 + r`, at that device's rows;
    row 2, cell r  the source of `c`'s copy of the all-gather to `peer c r` has been read: a share of the reduced rows comes back;
    row 3, cell r  `peer c r`'s copy of the all-gather has landed: the rows of the result that device reduces.

  Each cell has one round. Contents are stated in the payloads themselves: `landed c` for the landing slots, `red c` for
  the reduced rows, `outVal` for the result.
-/
module

public import proofs.«01_k».proof.Proof.KernelIdealSteps
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks)
open Idealize.ShloMosaic.ShareLeaves (leaf pointsTo_leaves)
open Idealize.ShloMosaic.Pipeline (Dat Cfg Window BodyObligation cellOf)

variable {F : FTy → Type} [FloatOps F]

/-! ## The resource algebra -/

/-- The protocol's rounds: a duty is named by a distance. -/
abbrev UB : Type := URounds (GSem nD τ sig) (Fin 15)
/-- The staging copies' rounds beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

/-- A device's number with some of its four bits flipped is a device's number. -/
theorem mateNat_lt : ∀ (c : Dev nD) (s : Fin 16), peerNat c (BitVec.ofNat 32 s.val) < nD := by decide +kernel

/-- The device whose number is `c`'s with the bits of `s` flipped: `c` itself at `s = 0`, a peer at every other `s`. -/
def mate (c : Dev nD) (s : Fin 16) : Dev nD := ⟨peerNat c (BitVec.ofNat 32 s.val), mateNat_lt c s⟩

/-- With no bit flipped it is the device itself. -/
theorem mate_zero : ∀ c : Dev nD, mate c 0 = c := by decide +kernel
/-- Flipping the bits of `1 + r` gives the `r`-th peer. -/
theorem mate_succ : ∀ (c : Dev nD) (r : Fin 15), mate c r.succ = peer c r := by decide +kernel
/-- Flipping by the same number twice changes nothing. -/
theorem mate_mate : ∀ (c : Dev nD) (s : Fin 16), mate c (mate c s) = s := by decide +kernel
/-- Two devices are each other's peer at one distance. -/
theorem peer_peer : ∀ (c : Dev nD) (r : Fin 15), peer (peer c r) r = c := by decide +kernel

/-- The devices as seen from `c`. -/
def mateEquiv (c : Dev nD) : Fin 16 ≃ Dev nD := ⟨mate c, mate c, mate_mate c, mate_mate c⟩
/-- The peers at one distance, paired. -/
def peerEquiv (r : Fin 15) : Dev nD ≃ Dev nD := ⟨fun c => peer c r, fun c => peer c r, fun c => peer_peer c r, fun c => peer_peer c r⟩

/-- `c` is `d`'s peer at a distance exactly when `d` is `c`'s. -/
theorem peer_eq_iff {c d : Dev nD} {r : Fin 15} : peer d r = c ↔ d = peer c r :=
  ⟨fun h => h ▸ (peer_peer d r).symm, fun h => h ▸ peer_peer c r⟩

/-! ## The buffers -/

/-- The operand, the result, the landing slots and the reduced rows. -/
abbrev xM : Memref sig .tc .vmem S256x256 .f32 := Memref.whole cc0_stg0_0
abbrev oM : Memref sig .tc .vmem S256x256 .f32 := Memref.whole cc0_stg1_0
abbrev lM : Memref sig .tc .vmem S16x16x256 .f32 := Memref.whole cc0_scratch0
abbrev dM : Memref sig .tc .vmem S16x256 .f32 := Memref.whole cc0_scratch1

/-- Sixteen rows from `16 b` are in the buffer. -/
theorem rowOff_inb (b : Fin 16) : ∀ a, (![16 * b.val, 0] : Fin 2 → Nat) a + S16x256.size a ≤ S256x256.size a := by revert b; decide
/-- Slot `s` is in the buffer. -/
theorem slotOff_inb (s : Fin 16) : ∀ a, (![s.val, 0, 0] : Fin 3 → Nat) a + S1x16x256.size a ≤ S16x16x256.size a := by revert s; decide

/-- The 16 rows of an operand or a result that belong to device `b`. -/
abbrev rowBlk (b : Fin 16) : Rect S256x256 := Rect.unit (s := S256x256) ![16 * b.val, 0] S16x256.size (rowOff_inb b)
/-- One landing slot. -/
abbrev slotBlk (s : Fin 16) : Rect S16x16x256 := Rect.unit (s := S16x16x256) ![s.val, 0, 0] S1x16x256.size (slotOff_inb s)

/-- The rows of a 256-row buffer that the copies to distance `1 + r` read start at the peer's. -/
theorem off1_eq : ∀ (c : Dev nD) (r : Fin 15), k0_off1 c (distW r) = ![16 * (peer c r).val, 0] := by decide +kernel

/-- Two devices' rows have none in common. -/
theorem rows_disjoint (b b' : Fin 16) (h : b ≠ b') : Disjoint (rowBlk b).set (rowBlk b').set :=
  lead_disjoint (s := S256x256) (0 : Fin 2) 16 (fun b : Fin 16 => ![16 * b.val, 0]) S16x256.size rowOff_inb (fun _ => rfl) rfl b b' h
/-- The devices' rows are all the rows. -/
theorem rows_cover : Finset.univ.biUnion (fun b => (rowBlk b).set) = Finset.univ :=
  lead_cover (s := S256x256) (0 : Fin 2) 16 (fun b : Fin 16 => ![16 * b.val, 0]) S16x256.size rowOff_inb (fun _ => rfl)
    (fun b a ha => by fin_cases a; · exact absurd rfl ha
                      rfl) rfl (fun a ha => by fin_cases a; · exact absurd rfl ha
                                               rfl) rfl
/-- Two slots have nothing in common. -/
theorem slots_disjoint (s s' : Fin 16) (h : s ≠ s') : Disjoint (slotBlk s).set (slotBlk s').set :=
  lead_disjoint (s := S16x16x256) (0 : Fin 3) 1 (fun s : Fin 16 => ![s.val, 0, 0]) S1x16x256.size slotOff_inb (fun b => (Nat.one_mul _).symm) rfl s s' h
/-- The slots are the whole landing buffer. -/
theorem slots_cover : Finset.univ.biUnion (fun s => (slotBlk s).set) = Finset.univ :=
  lead_cover (s := S16x16x256) (0 : Fin 3) 1 (fun s : Fin 16 => ![s.val, 0, 0]) S1x16x256.size slotOff_inb (fun b => (Nat.one_mul _).symm)
    (fun b a ha => by fin_cases a; · exact absurd rfl ha
                      · rfl
                      · rfl) rfl (fun a ha => by fin_cases a; · exact absurd rfl ha
                                                 · rfl
                                                 · rfl) rfl

/-- What a copy of the reduce-scatter reads: the peer's rows. -/
theorem rowsM_set (c : Dev nD) (r : Fin 15) : (rowsM xM c r).view.set = (rowBlk (peer c r)).set := by
  refine (View.set_slice_whole _ _).trans ?_
  ext i; rw [Rect.mem_set_unit, Rect.mem_set_unit, off1_eq]; exact Iff.rfl
/-- What a copy of the all-gather writes: the sender's rows. -/
theorem ownM_set (c : Dev nD) : (ownM oM c).view.set = (rowBlk c).set := by
  refine (View.set_slice_whole _ _).trans ?_
  ext i; rw [Rect.mem_set_unit, Rect.mem_set_unit, k0_off3_eq]; exact Iff.rfl
/-- What a copy of the reduce-scatter writes: the slot of its distance. -/
theorem slotM_set (r : Fin 15) : (slotM lM r).view.set = (slotBlk r.succ).set := by
  refine (View.set_reshape _ _).trans ((View.set_slice_whole _ _).trans ?_)
  ext i; rw [Rect.mem_set_unit, Rect.mem_set_unit, Fin.val_succ, Nat.add_comm 1 r.val]; exact Iff.rfl

/-! ## Contents -/

/-- Row `a` of device `b`'s 16 rows, column `j`. -/
def rowIx (b a : Fin 16) (j : Fin 256) : S256x256.Idx := fun
  | ⟨0, _⟩ => ⟨16 * b.val + a.val, by have := a.isLt; have := b.isLt; show _ < 256; omega⟩
  | ⟨1, _⟩ => j

/-- Device `c`'s operand, as the staging copy delivers it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s 16 landing slots once filled: slot `s` holds the rows of the device at `s` that `c` reduces. -/
def landed (c : Dev nD) : (cc0_scratch0 : Ref sig .tc).ty.Contents (Elt F) :=
  fun i => xstg m ρ (mate c (i 0)) (rowIx c (i 1) (i 2))

abbrev r8a : Rect S16x16x256 := Rect.unit (s := S16x16x256) ![0, 0, 0] S8x16x256.size inb_S16x16x256_S8x16x256_0_0_0
abbrev r8b : Rect S16x16x256 := Rect.unit (s := S16x16x256) ![8, 0, 0] S8x16x256.size inb_S16x16x256_S8x16x256_8_0_0
abbrev r4a : Rect S16x16x256 := Rect.unit (s := S16x16x256) ![0, 0, 0] S4x16x256.size inb_S16x16x256_S4x16x256_0_0_0
abbrev r4b : Rect S16x16x256 := Rect.unit (s := S16x16x256) ![4, 0, 0] S4x16x256.size inb_S16x16x256_S4x16x256_4_0_0
abbrev r2a : Rect S16x16x256 := Rect.unit (s := S16x16x256) ![0, 0, 0] S2x16x256.size inb_S16x16x256_S2x16x256_0_0_0
abbrev r2b : Rect S16x16x256 := Rect.unit (s := S16x16x256) ![2, 0, 0] S2x16x256.size inb_S16x16x256_S2x16x256_2_0_0
abbrev r1a : Rect S16x16x256 := Rect.unit (s := S16x16x256) ![0, 0, 0] S1x16x256.size inb_S16x16x256_S1x16x256_0_0_0
abbrev r1b : Rect S16x16x256 := Rect.unit (s := S16x16x256) ![1, 0, 0] S1x16x256.size inb_S16x16x256_S1x16x256_1_0_0
abbrev rD : Rect S16x256 := Rect.unit (s := S16x256) ![0, 0] S16x256.size inb_S16x256_S16x256_0_0

/-- The slots after each of the three halvings of the sum, … -/
def half8 (f : (cc0_scratch0 : Ref sig .tc).ty.Contents (Elt F)) : (cc0_scratch0 : Ref sig .tc).ty.Contents (Elt F) :=
  (lM.access r8a : View sig .tc _ _ _).write (Elt F) f (k0_pay2 (lM.view.readAt (Elt F) r8a.toLoadRect f) (lM.view.readAt (Elt F) r8b.toLoadRect f)) Finset.univ
def half4 (f : (cc0_scratch0 : Ref sig .tc).ty.Contents (Elt F)) : (cc0_scratch0 : Ref sig .tc).ty.Contents (Elt F) :=
  (lM.access r4a : View sig .tc _ _ _).write (Elt F) f (k0_pay3 (lM.view.readAt (Elt F) r4a.toLoadRect f) (lM.view.readAt (Elt F) r4b.toLoadRect f)) Finset.univ
def half2 (f : (cc0_scratch0 : Ref sig .tc).ty.Contents (Elt F)) : (cc0_scratch0 : Ref sig .tc).ty.Contents (Elt F) :=
  (lM.access r2a : View sig .tc _ _ _).write (Elt F) f (k0_pay4 (lM.view.readAt (Elt F) r2a.toLoadRect f) (lM.view.readAt (Elt F) r2b.toLoadRect f)) Finset.univ
/-- … the last of the halvings, … -/
def half1 (f : (cc0_scratch0 : Ref sig .tc).ty.Contents (Elt F)) : (cc0_scratch1 : Ref sig .tc).ty.Contents (Elt F) :=
  k0_pay5 (lM.view.readAt (Elt F) r1a.toLoadRect f) (lM.view.readAt (Elt F) r1b.toLoadRect f)
/-- … and the sum of 16 slots. -/
def sumOf (f : (cc0_scratch0 : Ref sig .tc).ty.Contents (Elt F)) : (cc0_scratch1 : Ref sig .tc).ty.Contents (Elt F) := half1 (half2 (half4 (half8 f)))

/-- The rows device `c` reduces, reduced. -/
def red (c : Dev nD) : (cc0_scratch1 : Ref sig .tc).ty.Contents (Elt F) := sumOf (landed m ρ c)

/-- The device that reduces row `i` of the result, and that row among its 16. -/
def rowDev (i : Fin 256) : Fin 16 := ⟨i.val / 16, by have := i.isLt; omega⟩
def rowIn (i : Fin 256) : Fin 16 := ⟨i.val % 16, by omega⟩
/-- An index of a 16-row buffer. -/
def ix16 (a : Fin 16) (j : Fin 256) : S16x256.Idx := fun
  | ⟨0, _⟩ => a
  | ⟨1, _⟩ => j

/-- The result, the same on every device: row `i` is the reducing device's reduced row. -/
def outVal : (cc0_stg1_0 : Ref sig .tc).ty.Contents (Elt F) := fun i => red m ρ (rowDev (i 0)) (ix16 (rowIn (i 0)) (i 1))

/-! ### What is held of a buffer -/

/-- Device `c`'s rows of block `b` of its operand. -/
def xPts (c : Dev nD) (b : Fin 16) : sProp 𝕄 := ((c : Thread nD τ).loc cc0_stg0_0) ↦[(rowBlk b).set]{fullShare} xstg m ρ c
/-- Device `c`'s rows of block `b` of its result. -/
def oPts (c : Dev nD) (b : Fin 16) (f : Buf (Elt F) ((c : Thread nD τ).loc cc0_stg1_0)) : sProp 𝕄 := ((c : Thread nD τ).loc cc0_stg1_0) ↦[(rowBlk b).set]{fullShare} f
/-- Device `c`'s landing slot `s`. -/
def lPts (c : Dev nD) (s : Fin 16) (f : Buf (Elt F) ((c : Thread nD τ).loc cc0_scratch0)) : sProp 𝕄 := ((c : Thread nD τ).loc cc0_scratch0) ↦[(slotBlk s).set]{fullShare} f
/-- One of 16 shares of device `c`'s reduced rows. -/
def dPts (c : Dev nD) (s : Fin 16) : sProp 𝕄 := ((c : Thread nD τ).loc cc0_scratch1) ↦[Finset.univ]{leaf 4 fullShare s} red m ρ c

omit [FloatOps F] in
instance xPts_storable (c : Dev nD) (b) : BI.Storable (upEmb : UEmb _ 𝕄) (xPts (F := F) m ρ c b) := by unfold xPts; infer_instance
omit [FloatOps F] in
instance oPts_storable (c : Dev nD) (b f) : BI.Storable (upEmb : UEmb _ 𝕄) (oPts (F := F) c b f) := by unfold oPts; infer_instance
omit [FloatOps F] in
instance lPts_storable (c : Dev nD) (s f) : BI.Storable (upEmb : UEmb _ 𝕄) (lPts (F := F) c s f) := by unfold lPts; infer_instance
instance dPts_storable (c : Dev nD) (s) : BI.Storable (upEmb : UEmb _ 𝕄) (dPts (F := F) m ρ c s) := by unfold dPts; infer_instance

/-! ## The cells -/

/-- The four rows of semaphores. -/
abbrev semRow : Fin 4 → DmaSems sig S16 := ![cc0_scratch2, cc0_scratch3, cc0_scratch4, cc0_scratch5]

/-- A device's cells: its barrier, and one for each row and distance. -/
abbrev Cell : Type := Option (Fin 4 × Fin 15)

/-- The semaphore of a cell. -/
def csem : Cell → SemLoc sig
  | none => .reg barS
  | some (k, r) => .dma (semAt (semRow k) r)

/-- The cell of a semaphore, if it has one. -/
def decode : SemLoc sig → Option Cell
  | .reg s => if s = barS then some none else none
  | .dma q => if h : 3 ≤ q.val ∧ (q.val - 3) / 16 < 4 ∧ (q.val - 3) % 16 < 15 then some (some (⟨(q.val - 3) / 16, h.2.1⟩, ⟨(q.val - 3) % 16, h.2.2⟩)) else none

/-- The cell of a cell's semaphore is that cell. -/
theorem decode_csem : ∀ x : Cell, decode (csem x) = some x := by decide +kernel
/-- Different cells have different semaphores. -/
theorem csem_injective : Function.Injective csem := fun a b h => Option.some.inj ((decode_csem a).symm.trans ((congrArg decode h).trans (decode_csem b)))

/-- A cell of device `c`. -/
abbrev kcell (c : Dev nD) (x : Cell) : GSem nD τ sig := ((c : Thread nD τ), csem x)

/-- Two cells of devices are one only on one device. -/
theorem kcell_eq_iff {c d : Dev nD} {x y : Cell} : kcell c x = kcell d y ↔ c = d ∧ x = y :=
  ⟨fun h => ⟨Fin.ext (congrArg (fun g : GSem nD τ sig => g.1.1.val) h), csem_injective (congrArg Prod.snd h)⟩, fun h => by rw [h.1, h.2]⟩

/-- The credit of one copy: every copy moves 16 rows. -/
abbrev N : ℕ := (dM : Memref sig .tc .vmem S16x256 .f32).view.dmaCredit
/-- A copy's credit is not zero. -/
theorem N_pos : 0 < N := View.dmaCredit_pos _ (by decide)

/-! ## The schedule -/

/-- What is handed over with duty `d` of a cell of device `c`. -/
def pay (c : Dev nD) : Cell → Fin 15 → sProp 𝕄
  | none, d => iprop((∃ f, lPts (peer c d) d.succ f) ∗ ∃ f, oPts (peer c d) c f)
  | some (0, r), _ => xPts m ρ c (peer c r)
  | some (1, r), _ => lPts c r.succ (landed m ρ c)
  | some (2, r), _ => dPts m ρ c r.succ
  | some (3, r), _ => oPts c (peer c r) (outVal m ρ)

instance pay_storable (c : Dev nD) : ∀ (x : Cell) (d : Fin 15), BI.Storable (upEmb : UEmb _ 𝕄) (pay (F := F) m ρ c x d)
  | none, d => by unfold pay; infer_instance
  | some (0, r), _ => by unfold pay; infer_instance
  | some (1, r), _ => by unfold pay; infer_instance
  | some (2, r), _ => by unfold pay; infer_instance
  | some (3, r), _ => by unfold pay; infer_instance

/-- The duties of a cell: every distance for a barrier, its own distance for the others. -/
def dutiesOf : Cell → Finset (Fin 15)
  | none => Finset.univ
  | some (_, r) => {r}
/-- The units of a duty. -/
def amountOf : Cell → ℕ
  | none => 1
  | some _ => N

/-- The schedule: one round, of each cell's duties. -/
def rd : Rounds.Schedule (GSem nD τ sig) (Fin 15) 𝕄 where
  duties g r := if r = 0 ∧ g.1.2 = .tc then (decode g.2).elim ∅ dutiesOf else ∅
  unitless _ := False
  amount g _ _ := (decode g.2).elim 1 amountOf
  payload g _ d := (decode g.2).elim iprop(emp) fun x => pay m ρ g.1.1 x d
  amount_pos g _ _ _ := by
    rcases decode g.2 with _ | _ | x
    · exact Nat.one_pos
    · exact Nat.one_pos
    · exact N_pos

instance rd_payload_storable (g : GSem nD τ sig) (r : ℕ) (d : Fin 15) : BI.Storable (upEmb : UEmb _ 𝕄) ((rd (F := F) m ρ).payload g r d) := by
  show BI.Storable upEmb ((decode g.2).elim iprop(emp) fun x => pay m ρ g.1.1 x d)
  cases decode g.2 with
  | none => exact (inferInstance : BI.Storable upEmb (iprop(emp) : sProp 𝕄))
  | some x => exact pay_storable m ρ g.1.1 x d

section Tables
variable (c : Dev nD) (x : Cell)

/-- The duties of a cell's round are its own. -/
theorem rd_duties : (rd (F := F) m ρ).duties (kcell c x) 0 = dutiesOf x := by
  dsimp only [rd]; rw [if_pos ⟨rfl, rfl⟩, decode_csem]; rfl
/-- There are no later rounds. -/
theorem rd_later (g : GSem nD τ sig) : ∀ r, 1 ≤ r → (rd (F := F) m ρ).duties g r = ∅ :=
  fun r hr => by dsimp only [rd]; rw [if_neg fun h => by omega]
/-- A duty is worth its cell's units. -/
theorem rd_amount (d : Fin 15) : (rd (F := F) m ρ).amount (kcell c x) 0 d = amountOf x := by
  dsimp only [rd]; rw [decode_csem]; rfl
/-- A duty hands over its cell's payload. -/
theorem rd_payload (d : Fin 15) : (rd (F := F) m ρ).payload (kcell c x) 0 d = pay m ρ c x d := by
  dsimp only [rd]; rw [decode_csem]; rfl
/-- A barrier's round is worth 15 units, … -/
theorem rd_expect_bar : (rd (F := F) m ρ).expect (kcell c none) 0 = 15 := by
  unfold Schedule.expect Schedule.amountOf
  rw [rd_duties, Finset.sum_congr rfl fun d _ => rd_amount m ρ c none d]; rfl
/-- … that of a copy's cell one copy's credit. -/
theorem rd_expect_dma (k : Fin 4) (r : Fin 15) : (rd (F := F) m ρ).expect (kcell c (some (k, r))) 0 = N := by
  unfold Schedule.expect Schedule.amountOf
  rw [rd_duties, Finset.sum_congr rfl fun d _ => rd_amount m ρ c (some (k, r)) d]
  exact Finset.sum_singleton _ _
/-- The whole of a barrier's round. -/
theorem rd_rest_bar : bigSep ((rd (F := F) m ρ).duties (kcell c none) 0 \ ∅) (fun d => (rd (F := F) m ρ).payload (kcell c none) 0 d)
    = bigSep Finset.univ fun d => pay m ρ c none d := by
  rw [Finset.sdiff_empty, rd_duties]; exact bigSep_congr fun d _ => rd_payload m ρ c none d
/-- The whole of another cell's round: its one payload. -/
theorem rd_rest_dma (k : Fin 4) (r : Fin 15) :
    bigSep ((rd (F := F) m ρ).duties (kcell c (some (k, r))) 0 \ ∅) (fun d => (rd (F := F) m ρ).payload (kcell c (some (k, r))) 0 d)
    = pay m ρ c (some (k, r)) r := by
  rw [Finset.sdiff_empty, rd_duties]; exact bigSep_singleton.trans (rd_payload m ρ c (some (k, r)) r)

end Tables

end Cert.KernelIdealProof

end
-- ==== Proof.KernelIdealContents.lean ====
/-
  What each copy and each local store leaves in the rows it writes: the contents the protocol's payloads state.
-/
module

public import proofs.«01_k».proof.Proof.KernelIdealProtocol
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- A landing slot's contents at an index, the device and the row named. -/
theorem landed_at (c d : Dev nD) (i : S16x16x256.Idx) (y : S256x256.Idx) (hd : mate c (i 0) = d) (hy : rowIx c (i 1) (i 2) = y) :
    landed m ρ c i = xstg m ρ d y := by
  subst hd; subst hy; rfl

/-- The result's contents at a row of device `c`. -/
theorem outVal_at (c : Dev nD) (i : S256x256.Idx) (y : S16x256.Idx) (h0 : (i 0).val = 16 * c.val + (y 0).val) (h1 : (i 1).val = (y 1).val) :
    outVal m ρ i = red m ρ c y := by
  have hy0 : (y 0).val < 16 := (y 0).isLt
  have hd : rowDev (i 0) = c := Fin.ext (by show (i 0).val / 16 = c.val; omega)
  have hy : ix16 (rowIn (i 0)) (i 1) = y := funext fun a => by
    fin_cases a
    · exact Fin.ext (by show (i 0).val % 16 = (y 0).val; omega)
    · exact Fin.ext h1
  unfold outVal; rw [hd, hy]

/-- The copy of the reduce-scatter to distance `1 + r` leaves the slot there at its final contents. -/
theorem landed_write (c : Dev nD) (r : Fin 15) (fd : (cc0_scratch0 : Ref sig .tc).ty.Contents (Elt F)) :
    ∀ i ∈ (slotM lM r).view.set,
      (slotM lM r).view.write (Elt F) fd ((rowsM xM c r).view.read (Elt F) (xstg m ρ c)) Finset.univ i = landed m ρ (peer c r) i := by
  intro i hi
  obtain ⟨j, -, rfl⟩ := Finset.mem_map.mp hi
  rw [View.write_emb_of_mem _ _ (Finset.mem_univ j)]
  have he : ∀ a : Fin 3, (((slotM lM r).view.emb j : S16x16x256.Idx) a).val
      = (![1 + r.val, 0, 0] : Fin 3 → ℕ) a + 1 * ((Fin.cons ⟨0, Nat.one_pos⟩ j : S1x16x256.Idx) a).val := fun a =>
    congrArg (fun y : S1x16x256.Idx => (![1 + r.val, 0, 0] : Fin 3 → ℕ) a + 1 * (y a).val) (Shape.reshapeEquiv_cons_one (d := ![16, 256]) _ j)
  have hx : ∀ a : Fin 2, (((rowsM xM c r).view.emb j : S256x256.Idx) a).val = (![16 * (peer c r).val, 0] : Fin 2 → ℕ) a + 1 * (j a).val := fun a =>
    congrArg (fun o : Fin 2 → ℕ => o a + 1 * (j a).val) (off1_eq c r)
  refine (landed_at m ρ (peer c r) c _ ((rowsM xM c r).view.emb j) ?_ ?_).symm
  · have : ((slotM lM r).view.emb j : S16x16x256.Idx) 0 = r.succ :=
      Fin.ext ((he 0).trans (by show 1 + r.val + 1 * 0 = r.val + 1; omega))
    rw [this, mate_succ, peer_peer]
  · funext a
    fin_cases a
    · refine Fin.ext (Eq.trans ?_ (hx 0).symm)
      have := he 1
      show 16 * (peer c r).val + (((slotM lM r).view.emb j : S16x16x256.Idx) 1).val = 16 * (peer c r).val + 1 * (j 0).val
      rw [this]; show _ + (0 + 1 * (j 0).val) = _; omega
    · refine Fin.ext (Eq.trans ?_ (hx 1).symm)
      have := he 2
      show (((slotM lM r).view.emb j : S16x16x256.Idx) 2).val = 0 + 1 * (j 1).val
      rw [this]; rfl

/-- The rows a device loads of its own operand, and stores of its result. -/
abbrev rOwn (c : Dev nD) : Rect S256x256 := Rect.unit (s := S256x256) (k0_off2 c) S16x256.size (k0_off2_inb c)

/-- The rows a device loads of its own operand are its own block. -/
theorem rOwn_set (c : Dev nD) : (rOwn c).set = (rowBlk c).set := by
  ext i; rw [Rect.mem_set_unit, Rect.mem_set_unit, k0_off2_eq]

/-- A slot's index with its leading 1 dropped. -/
theorem squeeze_eq (h : S1x16x256.numel = S16x256.numel) (j : S1x16x256.Idx) :
    Shape.reshapeEquiv (s := S16x256) (s' := S1x16x256) h j = ix16 (j 1) (j 2) := by
  have e : j = Shape.reshapeEquiv h.symm (ix16 (j 1) (j 2)) := by
    refine Eq.trans ?_ (Shape.reshapeEquiv_cons_one (d := ![16, 256]) h.symm (ix16 (j 1) (j 2))).symm
    have h0 : (j 0).val < 1 := (j 0).isLt
    funext a
    fin_cases a
    · exact Fin.ext (by show (j 0).val = 0; omega)
    · rfl
    · rfl
  refine (congrArg (Shape.reshapeEquiv h) e).trans ?_
  rw [Shape.reshapeEquiv_reshapeEquiv, Shape.reshapeEquiv_self]

/-- What is stored into a slot, at an index. -/
theorem pay1_at (v : Vec F S16x256 .f32) (j : S1x16x256.Idx) : k0_pay1 v j = v (ix16 (j 1) (j 2)) := by
  unfold k0_pay1; rw [shapeCast_self]; exact congrArg v (squeeze_eq _ j)

/-- The device's own rows stored into slot 0 are that slot's final contents. -/
theorem own_write (c : Dev nD) (f : (cc0_scratch0 : Ref sig .tc).ty.Contents (Elt F)) :
    ∀ i ∈ (lM.access r1a : View sig .tc _ _ _).set,
      (lM.access r1a : View sig .tc _ _ _).write (Elt F) f (k0_pay1 (xM.view.readAt (Elt F) (rOwn c).toLoadRect (xstg m ρ c))) Finset.univ i = landed m ρ c i := by
  intro i hi
  obtain ⟨j, -, rfl⟩ := Finset.mem_map.mp hi
  rw [View.write_emb_of_mem _ _ (Finset.mem_univ j)]
  have hj0 : (j 0).val < 1 := (j 0).isLt
  have he : ∀ a : Fin 3, (((lM.access r1a : View sig .tc _ _ _).emb j : S16x16x256.Idx) a).val = (![0, 0, 0] : Fin 3 → ℕ) a + 1 * (j a).val := fun a => rfl
  show k0_pay1 (xM.view.readAt (Elt F) (rOwn c).toLoadRect (xstg m ρ c)) j = _
  rw [pay1_at]
  have hx : ∀ a : Fin 2, (((rOwn c).toLoadRect.idx (ix16 (j 1) (j 2)) : S256x256.Idx) a).val = (![16 * c.val, 0] : Fin 2 → ℕ) a + 1 * (ix16 (j 1) (j 2) a).val := fun a =>
    congrArg (fun o : Fin 2 → ℕ => o a + 1 * (ix16 (j 1) (j 2) a).val) (k0_off2_eq c)
  refine (landed_at m ρ c c _ ((rOwn c).toLoadRect.idx (ix16 (j 1) (j 2))) ?_ ?_).symm
  · have : ((lM.access r1a : View sig .tc _ _ _).emb j : S16x16x256.Idx) 0 = (0 : Fin 16) :=
      Fin.ext ((he 0).trans (by show 0 + 1 * (j 0).val = 0; omega))
    exact (congrArg (mate c) this).trans (mate_zero c)
  · funext a
    fin_cases a
    · refine Fin.ext (Eq.trans ?_ (hx 0).symm)
      show 16 * c.val + (0 + 1 * (j 1).val) = 16 * c.val + 1 * (j 1).val
      omega
    · refine Fin.ext (Eq.trans ?_ (hx 1).symm)
      show 0 + 1 * (j 2).val = 0 + 1 * (j 2).val
      rfl

/-- The copy of the all-gather leaves the reducing device's rows at the result. -/
theorem gather_write (c : Dev nD) (fd : (cc0_stg1_0 : Ref sig .tc).ty.Contents (Elt F)) :
    ∀ i ∈ (ownM oM c).view.set,
      (ownM oM c).view.write (Elt F) fd (dM.view.read (Elt F) (red m ρ c)) Finset.univ i = outVal m ρ i := by
  intro i hi
  obtain ⟨j, -, rfl⟩ := Finset.mem_map.mp hi
  rw [View.write_emb_of_mem _ _ (Finset.mem_univ j)]
  have hx : ∀ a : Fin 2, (((ownM oM c).view.emb j : S256x256.Idx) a).val = (![16 * c.val, 0] : Fin 2 → ℕ) a + 1 * (j a).val := fun a =>
    congrArg (fun o : Fin 2 → ℕ => o a + 1 * (j a).val) (k0_off3_eq c)
  exact (outVal_at m ρ c _ j ((hx 0).trans (by show 16 * c.val + 1 * _ = _; omega)) ((hx 1).trans (by show 0 + 1 * _ = _; omega))).symm

/-- A pair of zero offsets. -/
theorem hz2 : (![0, 0] : Fin 2 → Nat) = fun _ => 0 := funext fun a => by fin_cases a <;> rfl

/-- The reduced rows loaded are the reduced rows. -/
theorem read_red (f : (cc0_scratch1 : Ref sig .tc).ty.Contents (Elt F)) : dM.view.readAt (Elt F) rD.toLoadRect f = f :=
  Memref.readAt_unit_zero (Elt F) cc0_scratch1 hz2 _ f
/-- The whole of the reduced rows stored. -/
theorem write_red (f w : (cc0_scratch1 : Ref sig .tc).ty.Contents (Elt F)) :
    (dM.access rD : View sig .tc _ _ _).write (Elt F) f w Finset.univ = w :=
  Memref.write_access_unit_zero_univ (Elt F) cc0_scratch1 hz2 _ f w

/-- The device's own reduced rows stored are its rows of the result. -/
theorem out_write (c : Dev nD) (f : (cc0_stg1_0 : Ref sig .tc).ty.Contents (Elt F)) :
    ∀ i ∈ (oM.access (rOwn c) : View sig .tc _ _ _).set,
      (oM.access (rOwn c) : View sig .tc _ _ _).write (Elt F) f (red m ρ c) Finset.univ i = outVal m ρ i := by
  intro i hi
  obtain ⟨j, -, rfl⟩ := Finset.mem_map.mp hi
  rw [View.write_emb_of_mem _ _ (Finset.mem_univ j)]
  have hx : ∀ a : Fin 2, (((oM.access (rOwn c) : View sig .tc _ _ _).emb j : S256x256.Idx) a).val = (![16 * c.val, 0] : Fin 2 → ℕ) a + 1 * (j a).val := fun a =>
    congrArg (fun o : Fin 2 → ℕ => o a + 1 * (j a).val) (k0_off2_eq c)
  exact (outVal_at m ρ c _ j ((hx 0).trans (by show 16 * c.val + 1 * _ = _; omega)) ((hx 1).trans (by show 0 + 1 * _ = _; omega))).symm

end Cert.KernelIdealProof

end
-- ==== Proof.KernelIdealRules.lean ====
/-
  One rule for each kind of step, and the rule of a loop of them.

  A step's rule takes what all the cells' invariants say (`records`), what the device owes, and the step's own resources,
  and gives what it owes after and what the step brings. `wp_forEach` runs a loop of such steps from the conjunction of
  the steps' resources to the conjunction of what they bring.
-/
module

public import proofs.«01_k».proof.Proof.KernelIdealContents
public import Idealize.ShloMosaic.Lib.Pipeline.BigSepL

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ) (ρ : Dev nD → PrngReg)

/-! ## Payments and levels -/

/-- The sum of a loop's payments. -/
def talL (t : Fin 15 → CellTallies nD τ sig Unit) : List (Fin 15) → CellTallies nD τ sig Unit
  | [] => 0
  | r :: l => talL t l + t r

/-- What device `c` pays `peer c r`: a unit of its barrier, and the credit of a copy on rows 1 and 3 of its semaphores. -/
def payBar (c : Dev nD) (r : Fin 15) : CellTallies nD τ sig Unit := tallyAt (kcell (peer c r) none) () 1
/-- The payment of a copy's credit at the peer. -/
def payRow (k : Fin 4) (c : Dev nD) (r : Fin 15) : CellTallies nD τ sig Unit := tallyAt (kcell (peer c r) (some (k, r))) () N

/-- Cells a wait on a lower cell may be entered owing: barrier 1, landings of the reduce-scatter 2, landings of the
    all-gather 3, everything else 0. -/
def lvOf : Cell → ℕ
  | none => 1
  | some (k, _) => ![0, 2, 0, 3] k
/-- Every cell of a core has one index. -/
def L (g : GSem nD τ sig) : Finset Unit := if g.1.2 = .tc then {()} else ∅
/-- The level of a semaphore: its cell's. -/
def lv (g : GSem nD τ sig) (_ : Unit) : ℕ := (decode g.2).elim 0 lvOf

/-- Other threads have no index. -/
theorem L_of_ne (g : GSem nD τ sig) (h : g.1.2 ≠ .tc) : L g = ∅ := if_neg h
/-- A core's semaphores have one. -/
theorem L_tc (c : Dev nD) (sm : SemLoc sig) : L ((c : Thread nD τ), sm) = {()} := if_pos rfl
/-- A cell's semaphore has the cell's level. -/
theorem lv_kcell (c : Dev nD) (x : Cell) : lv (kcell c x) () = lvOf x := by unfold lv; rw [decode_csem]; rfl

/-- Everything owed is owed to a cell above level `n`. -/
def Above (n : ℕ) (O : CellTallies nD τ sig Unit) : Prop := ∀ g u, 0 < O g u → ∃ d x, g = kcell d x ∧ n < lvOf x

/-- Nothing owed is above every level. -/
theorem above_zero (n : ℕ) : Above n 0 := fun g u h => absurd h (Nat.lt_irrefl 0)
/-- Two sums owed above a level are so together. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A payment to a cell above a level is owed above it. -/
theorem above_tallyAt {n : ℕ} (d : Dev nD) (x : Cell) (k : ℕ) (hx : n < lvOf x) : Above n (tallyAt (kcell d x) () k) := fun g u hg => by
  rw [tallyAt_apply] at hg
  by_cases h : g = kcell d x ∧ u = ()
  · exact ⟨d, x, h.1, hx⟩
  · rw [if_neg h] at hg; exact absurd hg (Nat.lt_irrefl 0)
/-- A loop's payments are owed above a level if each of them is. -/
theorem above_talL {n : ℕ} {t : Fin 15 → CellTallies nD τ sig Unit} (h : ∀ r, Above n (t r)) : ∀ l, Above n (talL t l)
  | [] => above_zero n
  | r :: l => above_add (above_talL h l) (h r)

/-- A wait at level at most `n`, everything owed above it. -/
theorem mayWait {n : ℕ} {O : CellTallies nD τ sig Unit} (hO : Above n O) (c : Dev nD) (sm : SemLoc sig) (hsm : (decode sm).elim 0 lvOf ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, x, rfl, -⟩ := hO g u hg; rw [L_tc]; exact Finset.mem_singleton_self _)
    (fun p hp => by rw [Finset.mem_singleton.mp hp]; exact hsm)
    (fun g u hg => by obtain ⟨d, x, rfl, hx⟩ := hO g u hg; rw [show lv (kcell d x) u = lvOf x from lv_kcell d x]; exact hx)

/-- The same, of a wait on a cell. -/
theorem mayWait_cell {n : ℕ} {O : CellTallies nD τ sig Unit} (hO : Above n O) (c : Dev nD) (x : Cell) (hx : lvOf x ≤ n) :
    (levAts L lv : sProp 𝕄) ⊢ MayWait (c : Thread nD τ) (csem x) () O :=
  mayWait hO c (csem x) (by rw [decode_csem]; exact hx)

/-! ## The invariants -/

/-- Every device's cells: their invariants under the names `K`, and that round 0 is reached. -/
def records (K : Dev nD × Cell → ℕ) : sProp 𝕄 :=
  iprop((bigSep Finset.univ fun cx : Dev nD × Cell => cellInv ER (rd m ρ) (K cx) (kcell cx.1 cx.2))
    ∗ bigSep Finset.univ fun cx : Dev nD × Cell => reached ER (kcell cx.1 cx.2) 0)

instance records_persistent (K : Dev nD × Cell → ℕ) : BI.Persistent (records m ρ K) := by unfold records; infer_instance

/-- The invariant of one cell. -/
theorem records_inv (K : Dev nD × Cell → ℕ) (c : Dev nD) (x : Cell) : records m ρ K ⊢ cellInv ER (rd m ρ) (K (c, x)) (kcell c x) := by
  have h : (bigSep Finset.univ fun cx : Dev nD × Cell => (cellInv ER (rd m ρ) (K cx) (kcell cx.1 cx.2) : sProp 𝕄)) ⊢ cellInv ER (rd m ρ) (K (c, x)) (kcell c x) :=
    bigSep_elim (Finset.mem_univ (c, x))
  unfold records; iintro ⟨H, -⟩; iapply h; iexact H
/-- Round 0 of one cell is reached. -/
theorem records_reached (K : Dev nD × Cell → ℕ) (c : Dev nD) (x : Cell) : records m ρ K ⊢ reached ER (kcell c x) 0 := by
  have h : (bigSep Finset.univ fun cx : Dev nD × Cell => (reached ER (kcell cx.1 cx.2) 0 : sProp 𝕄)) ⊢ reached ER (kcell c x) 0 :=
    bigSep_elim (Finset.mem_univ (c, x))
  unfold records; iintro ⟨-, H⟩; iapply h; iexact H

/-- What device `c` owes, whatever it has waited for. -/
def owesE (c : Dev nD) (O : CellTallies nD τ sig Unit) : sProp 𝕄 := iprop(∃ W : Waits sig Unit, owes (c : Thread nD τ) O W)

/-! ## Loops -/

abbrev 𝒱₀ : Variants := Variants.none

/-- Device `c`'s program `p` ends with `Q`. -/
abbrev wpc (c : Dev nD) (p : Pg F PUnit) (Q : PUnit → sProp 𝕄) : sProp 𝕄 := wp frame (wpE (defs₀ (F := F)) 𝒱₀ (c : Thread nD τ) none) Set.univ p Q

/-- A loop, from the rule of its steps: `I` is what is carried from step to step, `Φ r` what step `r` takes, `Ψ r` what it brings. -/
theorem wp_forEach (c : Dev nD) (P : sProp 𝕄) [BI.Persistent P] (f : Fin 15 → Pg F PUnit) (I : List (Fin 15) → sProp 𝕄) (Φ Ψ : Fin 15 → sProp 𝕄)
    (step : ∀ r l (k : PUnit → Pg F PUnit) Q, iprop(P ∗ I (r :: l) ∗ Φ r) ⊢ iprop(((I l ∗ Ψ r) -∗ wpc c (k ⟨⟩) Q) -∗ wpc c (f r >>= k) Q))
    (k : PUnit → Pg F PUnit) (Q : PUnit → sProp 𝕄) :
    ∀ l, iprop(P ∗ I l ∗ bigSepL l Φ) ⊢ iprop(((I [] ∗ bigSepL l Ψ) -∗ wpc c (k ⟨⟩) Q) -∗ wpc c (forEach f l >>= k) Q)
  | [] => by
    iintro ⟨-, HI, H⟩ Hk
    rw [show (forEach f [] >>= k) = k ⟨⟩ from rfl]
    iapply Hk
    isplitl [HI]; · iexact HI
    iexact H
  | r :: l => by
    rw [show (forEach f (r :: l) >>= k) = (f r >>= fun _ => forEach f l >>= k) from Prog.bind_assoc _ _ _, bigSepL_cons', bigSepL_cons']
    iintro ⟨#HP, HI, Hr, Hl⟩ Hk
    iapply (step r l (fun _ => forEach f l >>= k) Q) $$ [HI Hr]
    · isplitr; · iexact HP
      isplitl [HI]; · iexact HI
      iexact Hr
    iintro ⟨HI, Hr⟩
    iapply (wp_forEach c P f I Φ Ψ step k Q l) $$ [HI Hl]
    · isplitr; · iexact HP
      isplitl [HI]; · iexact HI
      iexact Hl
    iintro ⟨HI, Hl⟩
    iapply Hk
    isplitl [HI]; · iexact HI
    isplitl [Hr]; · iexact Hr
    iexact Hl

end Cert.KernelIdealProof

end
-- ==== Proof.KernelIdealStepRules.lean ====
/-
  The rule of each kind of step: a signal, the two copies, the waits for copies, the wait for the signals.

  A copy's two ends are cells of the schedule; each rule first states what the schedule says of those two cells at the
  semaphores the step names, and then is the library's rule of the operation.
-/
module

public import proofs.«01_k».proof.Proof.KernelIdealRules

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × Cell → ℕ) (c : Dev nD)

/-- A cell of a copy has its distance's duty. -/
theorem rd_mem (j : Fin 4) (r : Fin 15) : r ∈ (rd (F := F) m ρ).duties (kcell c (some (j, r))) 0 := by
  rw [rd_duties m ρ c (some (j, r))]; exact Finset.mem_singleton_self _
/-- A barrier has every distance's duty. -/
theorem rd_mem_bar (r : Fin 15) : r ∈ (rd (F := F) m ρ).duties (kcell c none) 0 := by
  rw [rd_duties m ρ c none]; exact Finset.mem_univ _

/-- Signalling a peer's barrier: its landing slot and rows of the result go with the signal. -/
theorem signal_step (r : Fin 15) (O : CellTallies nD τ sig Unit) (k : PUnit → Pg F PUnit) (Q : PUnit → sProp 𝕄) :
    iprop(records m ρ K ∗ owesE c (O + payBar c r)
        ∗ (dutyTok ER (kcell (peer c r) none) 0 r ∗ (∃ f, lPts c r.succ f) ∗ ∃ f, oPts c (peer c r) f))
      ⊢ iprop(((owesE c O ∗ emp) -∗ wpc c (k ⟨⟩) Q) -∗ wpc c (signalStep c r >>= k) Q) := by
  have hp : iprop((∃ f, lPts c r.succ f) ∗ ∃ f, oPts c (peer c r) f) ⊢ (rd (F := F) m ρ).payload ((peer c r : Thread nD τ), SemLoc.reg barS) 0 r := by
    rw [show (rd (F := F) m ρ).payload ((peer c r : Thread nD τ), SemLoc.reg barS) 0 r = pay m ρ (peer c r) none r from rd_payload m ρ (peer c r) none r]
    show _ ⊢ iprop((∃ f, lPts (peer (peer c r) r) r.succ f) ∗ ∃ f, oPts (peer (peer c r) r) (peer c r) f)
    rw [peer_peer]
  unfold signalStep semSignalWord owesE payBar
  simp only [Prog.bind_op, Prog.bind_ret]
  iintro ⟨#HR, ⟨%W, HO⟩, Ht, Hl⟩ Hk
  iapply (Rounds.wp_signal 𝒱₀ ER (rd m ρ) (c : Thread nD τ) none (dst := (peer c r : Thread nD τ)) (κ := K (peer c r, none))
      (d := r) (rd_mem_bar m ρ (peer c r) r) ((rd_amount m ρ (peer c r) none r).trans (by decide)) () O rfl) $$ [HO Ht Hl]
  · isplitr; · iapply (records_inv m ρ K (peer c r) none); iexact HR
    isplitl [HO]; · iexact HO
    isplitl [Ht]; · iexact Ht
    isplitl [Hl]; · iapply hp; iexact Hl
    iapply (records_reached m ρ K (peer c r) none); iexact HR
  iintro HO
  iapply Hk
  isplitl; · iexists W; iexact HO
  iempintro

/-- A copy of the reduce-scatter: the rows of the operand are lent until its source wait, the landing slot is given. -/
theorem scatter_step (r : Fin 15) (O : CellTallies nD τ sig Unit) (k : PUnit → Pg F PUnit) (Q : PUnit → sProp 𝕄) :
    iprop(records m ρ K ∗ owesE c (O + payRow 1 c r)
        ∗ (dutyTok ER (kcell c (some (0, r))) 0 r ∗ dutyTok ER (kcell (peer c r) (some (1, r))) 0 r ∗ xPts m ρ c (peer c r) ∗ ∃ f, lPts (peer c r) r.succ f))
      ⊢ iprop(((owesE c O ∗ cred (tallyAt (kcell c (some (0, r))) () N)) -∗ wpc c (k ⟨⟩) Q)
          -∗ wpc c (scatterStep xM lM cc0_scratch2 cc0_scratch3 c r >>= k) Q) := by
  have e₁ : kcell c (some (0, r)) = ((c : Thread nD τ), SemLoc.dma (semAt cc0_scratch2 r)) := rfl
  have e₂ : kcell (peer c r) (some (1, r)) = ((peer c r : Thread nD τ), SemLoc.dma (semAt cc0_scratch3 r)) := rfl
  have hI₁ := records_inv m ρ K c (some (0, r))
  have hI₂ := records_inv m ρ K (peer c r) (some (1, r))
  have hR₁ := records_reached m ρ K c (some (0, r))
  have hR₂ := records_reached m ρ K (peer c r) (some (1, r))
  have hd₁ := rd_mem m ρ c 0 r
  have hd₂ := rd_mem m ρ (peer c r) 1 r
  have ha₁ : (rd m ρ).amount (kcell c (some (0, r))) 0 r = N := rd_amount m ρ c (some (0, r)) r
  have ha₂ : (rd m ρ).amount (kcell (peer c r) (some (1, r))) 0 r = N := rd_amount m ρ (peer c r) (some (1, r)) r
  have hr : τ.routes (c : Thread nD τ) (peer c r : Thread nD τ) = true := by routes
  have hp₁ : ((rowsM xM c r).view.loc (c : Thread nD τ) ↦[(rowsM xM c r).view.set]{fullShare} xstg m ρ c) ⊢ (rd (F := F) m ρ).payload (kcell c (some (0, r))) 0 r := by
    rw [rd_payload m ρ c (some (0, r)) r, rowsM_set c r]; exact Entails.of_eq rfl
  have hp₂ : ∀ f, ((slotM lM r).view.loc (peer c r : Thread nD τ) ↦[(slotM lM r).view.set]{fullShare} (slotM lM r).view.write (Elt F) f ((rowsM xM c r).view.read (Elt F) (xstg m ρ c)) Finset.univ)
      ⊢ (rd (F := F) m ρ).payload (kcell (peer c r) (some (1, r))) 0 r := fun f => by
    rw [rd_payload m ρ (peer c r) (some (1, r)) r]
    rw [pointsTo_congr (landed_write m ρ c r f), slotM_set r]; exact Entails.of_eq rfl
  have hx : xPts m ρ c (peer c r) ⊢ ((rowsM xM c r).view.loc (c : Thread nD τ) ↦[(rowsM xM c r).view.set]{fullShare} xstg m ρ c) := by unfold xPts; rw [rowsM_set c r]
  have hl : ∀ f, lPts (F := F) (peer c r) r.succ f ⊢ ((slotM lM r).view.loc (peer c r : Thread nD τ) ↦[(slotM lM r).view.set]{fullShare} f) := fun f => by unfold lPts; rw [slotM_set r]
  unfold scatterStep owesE payRow
  rw [e₁] at hI₁ hR₁ hd₁ ha₁ hp₁ ⊢
  rw [e₂] at hI₂ hR₂ hd₂ ha₂ hp₂ ⊢
  simp only [Prog.lift, Prog.bind_op, Prog.bind_ret]
  iintro ⟨#HR, ⟨%W, HO⟩, Ht, Ht', Hx, ⟨%f, Hl⟩⟩ Hk
  iapply (Rounds.wp_send_pointsTo (c' := (peer c r : Thread nD τ)) (src := rowsM xM c r) (dst := slotM lM r) 𝒱₀ ER (rd m ρ) (c : Thread nD τ) none (κ₁ := K (c, some (0, r))) (κ₂ := K (peer c r, some (1, r)))
    (r₁ := 0) (r₂ := 0) (d₁ := r) (d₂ := r) (fd := f) hd₁ hd₂ () () N rfl ha₁ ha₂ O rfl (W := W) hp₁ (hp₂ f) hr) $$ [HO Ht Ht' Hx Hl]
  · isplitr; · iapply hI₁; iexact HR
    isplitr; · iapply hI₂; iexact HR
    isplitl [Hx]; · iapply hx; iexact Hx
    isplitl [Hl]; · iapply (hl f); iexact Hl
    isplitl [HO]; · iexact HO
    isplitl [Ht]; · iexact Ht
    isplitr; · iapply hR₁; iexact HR
    isplitl [Ht']; · iexact Ht'
    iapply hR₂; iexact HR
  iintro ⟨Hc, HO⟩
  iapply Hk
  isplitl [HO]; · iexists W; iexact HO
  iexact Hc

/-- A copy of the all-gather: a share of the reduced rows is lent until its source wait, the peer's rows of the result are given. -/
theorem gather_step (r : Fin 15) (O : CellTallies nD τ sig Unit) (k : PUnit → Pg F PUnit) (Q : PUnit → sProp 𝕄) :
    iprop(records m ρ K ∗ owesE c (O + payRow 3 c r)
        ∗ (dutyTok ER (kcell c (some (2, r))) 0 r ∗ dutyTok ER (kcell (peer c r) (some (3, r))) 0 r ∗ dPts m ρ c r.succ ∗ ∃ f, oPts (peer c r) c f))
      ⊢ iprop(((owesE c O ∗ cred (tallyAt (kcell c (some (2, r))) () N)) -∗ wpc c (k ⟨⟩) Q)
          -∗ wpc c (gatherStep oM dM (Memref.isWhole_whole _) cc0_scratch4 cc0_scratch5 c r >>= k) Q) := by
  have e₁ : kcell c (some (2, r)) = ((c : Thread nD τ), SemLoc.dma (semAt cc0_scratch4 r)) := rfl
  have e₂ : kcell (peer c r) (some (3, r)) = ((peer c r : Thread nD τ), SemLoc.dma (semAt cc0_scratch5 r)) := rfl
  have hI₁ := records_inv m ρ K c (some (2, r))
  have hI₂ := records_inv m ρ K (peer c r) (some (3, r))
  have hR₁ := records_reached m ρ K c (some (2, r))
  have hR₂ := records_reached m ρ K (peer c r) (some (3, r))
  have hd₁ := rd_mem m ρ c 2 r
  have hd₂ := rd_mem m ρ (peer c r) 3 r
  have ha₁ : (rd m ρ).amount (kcell c (some (2, r))) 0 r = N := rd_amount m ρ c (some (2, r)) r
  have ha₂ : (rd m ρ).amount (kcell (peer c r) (some (3, r))) 0 r = N := rd_amount m ρ (peer c r) (some (3, r)) r
  have hr : τ.routes (c : Thread nD τ) (peer c r : Thread nD τ) = true := by routes
  have hp₁ : (dM.view.loc (c : Thread nD τ) ↦[dM.view.set]{leaf 4 fullShare r.succ} red m ρ c) ⊢ (rd (F := F) m ρ).payload (kcell c (some (2, r))) 0 r := by
    rw [rd_payload m ρ c (some (2, r)) r, show dM.view.set = Finset.univ from View.set_whole _]; exact Entails.of_eq rfl
  have hp₂ : ∀ f, ((ownM oM c).view.loc (peer c r : Thread nD τ) ↦[(ownM oM c).view.set]{fullShare} (ownM oM c).view.write (Elt F) f (dM.view.read (Elt F) (red m ρ c)) Finset.univ)
      ⊢ (rd (F := F) m ρ).payload (kcell (peer c r) (some (3, r))) 0 r := fun f => by
    rw [rd_payload m ρ (peer c r) (some (3, r)) r]
    show _ ⊢ oPts (peer c r) (peer (peer c r) r) (outVal m ρ)
    rw [peer_peer, pointsTo_congr (gather_write m ρ c f), ownM_set c]; exact Entails.of_eq rfl
  have hx : dPts m ρ c r.succ ⊢ (dM.view.loc (c : Thread nD τ) ↦[dM.view.set]{leaf 4 fullShare r.succ} red m ρ c) := by unfold dPts; rw [show dM.view.set = Finset.univ from View.set_whole _]
  have hl : ∀ f, oPts (F := F) (peer c r) c f ⊢ ((ownM oM c).view.loc (peer c r : Thread nD τ) ↦[(ownM oM c).view.set]{fullShare} f) := fun f => by unfold oPts; rw [ownM_set c]
  unfold gatherStep owesE payRow
  rw [e₁] at hI₁ hR₁ hd₁ ha₁ hp₁ ⊢
  rw [e₂] at hI₂ hR₂ hd₂ ha₂ hp₂ ⊢
  simp only [Prog.lift, Prog.bind_op, Prog.bind_ret]
  iintro ⟨#HR, ⟨%W, HO⟩, Ht, Ht', Hx, ⟨%f, Hl⟩⟩ Hk
  iapply (Rounds.wp_send_pointsTo (c' := (peer c r : Thread nD τ)) (src := dM) (dst := ownM oM c) 𝒱₀ ER (rd m ρ) (c : Thread nD τ) none (κ₁ := K (c, some (2, r))) (κ₂ := K (peer c r, some (3, r)))
    (r₁ := 0) (r₂ := 0) (d₁ := r) (d₂ := r) (fd := f) hd₁ hd₂ () () N rfl ha₁ ha₂ O rfl (W := W) hp₁ (hp₂ f) hr) $$ [HO Ht Ht' Hx Hl]
  · isplitr; · iapply hI₁; iexact HR
    isplitr; · iapply hI₂; iexact HR
    isplitl [Hx]; · iapply hx; iexact Hx
    isplitl [Hl]; · iapply (hl f); iexact Hl
    isplitl [HO]; · iexact HO
    isplitl [Ht]; · iexact Ht
    isplitr; · iapply hR₁; iexact HR
    isplitl [Ht']; · iexact Ht'
    iapply hR₂; iexact HR
  iintro ⟨Hc, HO⟩
  iapply Hk
  isplitl [HO]; · iexists W; iexact HO
  iexact Hc

/-- A wait on a copy's cell: the cell's payload comes with it, and the cell closes at zero. -/
theorem wait_step (j : Fin 4) (r : Fin 15) (n : ℕ) (O : CellTallies nD τ sig Unit) (hO : Above n O) (hj : lvOf (some (j, r)) ≤ n)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem (some (j, r))) N Kt)
    (k : PUnit → Pg F PUnit) (Q : PUnit → sProp 𝕄) :
    iprop((records m ρ K ∗ levAts L lv) ∗ owesE c O ∗ (cred (tallyAt (kcell c (some (j, r))) () N) ∗ atPos ER (kcell c (some (j, r))) 0 ∅ 0))
      ⊢ iprop(((owesE c O ∗ (pay m ρ c (some (j, r)) r ∗ semVal (kcell c (some (j, r))) 0)) -∗ wpc c (k ⟨⟩) Q)
          -∗ wpc c (Prog.lift w >>= k) Q) := by
  unfold owesE
  simp only [Prog.lift, Prog.bind_op, Prog.bind_ret]
  iintro ⟨⟨#HR, #Hlev⟩, ⟨%W, HO⟩, Hc, Hat⟩ Hk
  iapply (Rounds.wp_wait_rest_token 𝒱₀ ER (rd m ρ) (c : Thread nD τ) none (κ := K (c, some (j, r))) hw (Set.mem_univ _) () (O := O) (W := W)
      (R := 0) (m := 0) (T := ∅) (by rw [Nat.zero_add]; exact (rd_expect_dma m ρ c j r).symm)) $$ [Hc HO Hat]
  · isplitr; · iapply (records_inv m ρ K c (some (j, r))); iexact HR
    isplitl [Hc]; · iexact Hc
    isplitl [HO]; · iexact HO
    isplitr; · iapply (mayWait_cell hO c (some (j, r)) hj); iexact Hlev
    iexact Hat
  iintro ⟨HO, Hat, -, Hpay⟩
  ihave Hp := (Entails.of_eq (rd_rest_dma m ρ c j r)) $$ Hpay
  imod (Rounds.cell_close ER (rd m ρ) (Set.mem_univ (K (c, some (j, r)))) (fun h => h) (R := 0 + 1) (rd_later m ρ (kcell c (some (j, r))))) $$ [Hat] with Hz
  · isplitr; · iapply (records_inv m ρ K c (some (j, r))); iexact HR
    iexact Hat
  iapply Hk
  isplitl [HO]; · iexists _; iexact HO
  isplitl [Hp]; · iexact Hp
  iexact Hz

/-- The wait for the 15 peers' signals: what every one of them hands over. -/
theorem barrier_step (O : CellTallies nD τ sig Unit) (hO : Above 1 O) (k : PUnit → Pg F PUnit) (Q : PUnit → sProp 𝕄) :
    iprop((records m ρ K ∗ levAts L lv) ∗ owesE c O ∗ (cred (tallyAt (kcell c none) () 15) ∗ atPos ER (kcell c none) 0 ∅ 0))
      ⊢ iprop(((owesE c O ∗ ((bigSep Finset.univ fun d => pay m ρ c none d) ∗ semVal (kcell c none) 0)) -∗ wpc c (k ⟨⟩) Q)
          -∗ wpc c (semWaitWord barS 15#32 >>= k) Q) := by
  have hrest := Entails.of_eq (rd_rest_bar (F := F) m ρ c)
  have e : kcell c none = ((c : Thread nD τ), SemLoc.reg barS) := rfl
  rw [e] at hrest
  unfold owesE semWaitWord
  simp only [Prog.bind_op, Prog.bind_ret]
  iintro ⟨⟨#HR, #Hlev⟩, ⟨%W, HO⟩, Hc, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := O) (W := W)
      (R := 0) (m := 0) (T := ∅) (by rw [Nat.zero_add]; exact (rd_expect_bar m ρ c).symm)) $$ [Hc HO Hat]
  · isplitr; · iapply (records_inv m ρ K c none); iexact HR
    isplitl [Hc]; · iexact Hc
    isplitl [HO]; · iexact HO
    isplitr; · iapply (mayWait_cell hO c none (Nat.le_refl 1)); iexact Hlev
    iexact Hat
  iintro ⟨HO, Hat, -, Hpay⟩
  ihave Hp := hrest $$ Hpay
  imod (Rounds.cell_close ER (rd m ρ) (Set.mem_univ (K (c, none))) (fun h => h) (R := 0 + 1) (rd_later m ρ (kcell c none))) $$ [Hat] with Hz
  · isplitr; · iapply (records_inv m ρ K c none); iexact HR
    iexact Hat
  iapply Hk
  isplitl [HO]; · iexists _; iexact HO
  isplitl [Hp]; · iexact Hp
  iexact Hz

end Steps

end Cert.KernelIdealProof

end
-- ==== Proof.KernelIdealStages.lean ====
/-
  The stages of a device's body: its loops, from the rules of their steps, and its three straight pieces; and how the
  buffers split into the pieces the copies move and join again.
-/
module

public import proofs.«01_k».proof.Proof.KernelIdealStepRules
public import Idealize.ShloMosaic.Lib.SparseCore.Stream

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ) (ρ : Dev nD → PrngReg)

/-! ## Splitting the buffers -/

section Pieces

variable (c : Dev nD)

omit [FloatOps F] in
/-- Over the devices: the device itself and its peers. -/
theorem by_mates (Φ : Fin 16 → sProp 𝕄) : bigSep Finset.univ Φ = iprop(Φ c ∗ bigSep Finset.univ fun r : Fin 15 => Φ (peer c r)) := by
  rw [bigSep_univ_equiv (mateEquiv c) Φ, bigSep_univ_succ]
  show iprop(Φ (mate c 0) ∗ bigSep Finset.univ fun r : Fin 15 => Φ (mate c r.succ)) = _
  rw [mate_zero, bigSep_congr fun r _ => congrArg Φ (mate_succ c r)]

omit [FloatOps F] in
/-- The operand: the device's own rows and those it sends to its peers. -/
theorem x_split : ((((c : Thread nD τ).loc cc0_stg0_0) ↦{fullShare} xstg m ρ c) : sProp 𝕄)
    = iprop(xPts m ρ c c ∗ bigSep Finset.univ fun r : Fin 15 => xPts m ρ c (peer c r)) :=
  (pointsTo_blocks (ℓ := (c : Thread nD τ).loc cc0_stg0_0) (fun b : Fin 16 => (rowBlk b).set) rows_disjoint rows_cover (xstg m ρ c)).trans
    (by_mates c fun b => xPts m ρ c b)

omit [FloatOps F] in
/-- The result: the device's own rows and those its peers write. -/
theorem o_split (f : Buf (Elt F) ((c : Thread nD τ).loc cc0_stg1_0)) : ((((c : Thread nD τ).loc cc0_stg1_0) ↦{fullShare} f) : sProp 𝕄)
    = iprop(oPts c c f ∗ bigSep Finset.univ fun r : Fin 15 => oPts c (peer c r) f) :=
  (pointsTo_blocks (ℓ := (c : Thread nD τ).loc cc0_stg1_0) (fun b : Fin 16 => (rowBlk b).set) rows_disjoint rows_cover f).trans
    (by_mates c fun b => oPts c b f)

omit [FloatOps F] in
/-- The landing slots: the device's own and its peers'. -/
theorem l_split (f : Buf (Elt F) ((c : Thread nD τ).loc cc0_scratch0)) : ((((c : Thread nD τ).loc cc0_scratch0) ↦{fullShare} f) : sProp 𝕄)
    = iprop(lPts c 0 f ∗ bigSep Finset.univ fun r : Fin 15 => lPts c r.succ f) :=
  (pointsTo_blocks (ℓ := (c : Thread nD τ).loc cc0_scratch0) (fun s : Fin 16 => (slotBlk s).set) slots_disjoint slots_cover f).trans
    (bigSep_univ_succ fun s => lPts c s f)

/-- The reduced rows: the share the device keeps and those its copies read. -/
theorem d_split : ((((c : Thread nD τ).loc cc0_scratch1) ↦{fullShare} red m ρ c) : sProp 𝕄)
    = iprop(dPts m ρ c 0 ∗ bigSep Finset.univ fun r : Fin 15 => dPts m ρ c r.succ) := by
  refine (pointsTo_leaves (ℓ := (c : Thread nD τ).loc cc0_scratch1) Finset.univ (red m ρ c) 4 fullShare).trans ?_
  show (bigSep (Finset.univ : Finset (Fin 16)) fun s => dPts m ρ c s) = _
  exact bigSep_univ_succ (m := 15) fun s => dPts m ρ c s

end Pieces

/-! ## The loops -/

section Stages

variable (K : Dev nD × Cell → ℕ) (c : Dev nD)

/-- A loop over every distance, in any order. -/
theorem wp_loop (P : sProp 𝕄) [BI.Persistent P] (f : Fin 15 → Pg F PUnit) (I : List (Fin 15) → sProp 𝕄) (Φ Ψ : Fin 15 → sProp 𝕄)
    (step : ∀ r l (k : PUnit → Pg F PUnit) Q, iprop(P ∗ I (r :: l) ∗ Φ r) ⊢ iprop(((I l ∗ Ψ r) -∗ wpc c (k ⟨⟩) Q) -∗ wpc c (f r >>= k) Q))
    (k : PUnit → Pg F PUnit) (Q : PUnit → sProp 𝕄) (l : List (Fin 15)) (h : Finset.univ = l.toFinset) (hl : l.Nodup) :
    iprop(P ∗ I l ∗ bigSep Finset.univ Φ) ⊢ iprop(((I [] ∗ bigSep Finset.univ Ψ) -∗ wpc c (k ⟨⟩) Q) -∗ wpc c (forEach f l >>= k) Q) := by
  rw [bigSep_univ_eq_bigSepL l h hl Φ, bigSep_univ_eq_bigSepL l h hl Ψ]
  exact wp_forEach c P f I Φ Ψ step k Q l

/-- The distances in increasing order are all the distances, … -/
theorem up_all : (Finset.univ : Finset (Fin 15)) = up.toFinset := by decide
/-- … each once; … -/
theorem up_nodup : up.Nodup := by decide
/-- … and so are they in decreasing order, … -/
theorem down_all : (Finset.univ : Finset (Fin 15)) = down.toFinset := by decide
/-- … each once. -/
theorem down_nodup : down.Nodup := by decide

/-- What is owed before a loop of payments, one payment taken off. -/
theorem owe_cons (O : CellTallies nD τ sig Unit) (t : Fin 15 → CellTallies nD τ sig Unit) (r : Fin 15) (l : List (Fin 15)) :
    O + talL t (r :: l) = (O + talL t l) + t r := (add_assoc O (talL t l) (t r)).symm

/-- Every peer signalled, each with its landing slot and rows of the result. -/
theorem signal_loop (O : CellTallies nD τ sig Unit) (k : PUnit → Pg F PUnit) (Q : PUnit → sProp 𝕄) :
    iprop(records m ρ K ∗ owesE c (O + talL (payBar c) up)
        ∗ bigSep Finset.univ fun r : Fin 15 => iprop(dutyTok ER (kcell (peer c r) none) 0 r ∗ (∃ f, lPts c r.succ f) ∗ ∃ f, oPts c (peer c r) f))
      ⊢ iprop(((owesE c O ∗ bigSep Finset.univ fun _ : Fin 15 => iprop(emp)) -∗ wpc c (k ⟨⟩) Q) -∗ wpc c (forEach (signalStep c) up >>= k) Q) := by
  rw [show owesE c O = owesE c (O + talL (payBar c) []) from congrArg (owesE c) (add_zero O).symm]
  refine (wp_loop c (records m ρ K) (signalStep c) (fun l => owesE c (O + talL (payBar c) l)) _ _ (fun r l k Q => ?_) k Q up up_all up_nodup)
  beta_reduce
  rw [owe_cons]
  exact signal_step m ρ K c r _ k Q

/-- Every peer sent its rows of the operand. -/
theorem scatter_loop (O : CellTallies nD τ sig Unit) (k : PUnit → Pg F PUnit) (Q : PUnit → sProp 𝕄) :
    iprop(records m ρ K ∗ owesE c (O + talL (payRow 1 c) down)
        ∗ bigSep Finset.univ fun r : Fin 15 => iprop(dutyTok ER (kcell c (some (0, r))) 0 r ∗ dutyTok ER (kcell (peer c r) (some (1, r))) 0 r
            ∗ xPts m ρ c (peer c r) ∗ ∃ f, lPts (peer c r) r.succ f))
      ⊢ iprop(((owesE c O ∗ bigSep Finset.univ fun r : Fin 15 => cred (tallyAt (kcell c (some (0, r))) () N)) -∗ wpc c (k ⟨⟩) Q)
          -∗ wpc c (forEach (scatterStep xM lM cc0_scratch2 cc0_scratch3 c) down >>= k) Q) := by
  rw [show owesE c O = owesE c (O + talL (payRow 1 c) []) from congrArg (owesE c) (add_zero O).symm]
  refine (wp_loop c (records m ρ K) (scatterStep xM lM cc0_scratch2 cc0_scratch3 c) (fun l => owesE c (O + talL (payRow 1 c) l)) _ _ (fun r l k Q => ?_) k Q down down_all down_nodup)
  beta_reduce
  rw [owe_cons]
  exact scatter_step m ρ K c r _ k Q

/-- Every peer sent the reduced rows. -/
theorem gather_loop (O : CellTallies nD τ sig Unit) (k : PUnit → Pg F PUnit) (Q : PUnit → sProp 𝕄) :
    iprop(records m ρ K ∗ owesE c (O + talL (payRow 3 c) down)
        ∗ bigSep Finset.univ fun r : Fin 15 => iprop(dutyTok ER (kcell c (some (2, r))) 0 r ∗ dutyTok ER (kcell (peer c r) (some (3, r))) 0 r
            ∗ dPts m ρ c r.succ ∗ ∃ f, oPts (peer c r) c f))
      ⊢ iprop(((owesE c O ∗ bigSep Finset.univ fun r : Fin 15 => cred (tallyAt (kcell c (some (2, r))) () N)) -∗ wpc c (k ⟨⟩) Q)
          -∗ wpc c (forEach (gatherStep oM dM (Memref.isWhole_whole _) cc0_scratch4 cc0_scratch5 c) down >>= k) Q) := by
  rw [show owesE c O = owesE c (O + talL (payRow 3 c) []) from congrArg (owesE c) (add_zero O).symm]
  refine (wp_loop c (records m ρ K) (gatherStep oM dM (Memref.isWhole_whole _) cc0_scratch4 cc0_scratch5 c) (fun l => owesE c (O + talL (payRow 3 c) l)) _ _ (fun r l k Q => ?_) k Q down down_all down_nodup)
  beta_reduce
  rw [owe_cons]
  exact gather_step m ρ K c r _ k Q

/-- A loop of waits on one row of cells: every cell's payload, and every cell closed at zero. -/
theorem wait_loop (j : Fin 4) (n : ℕ) (O : CellTallies nD τ sig Unit) (hO : Above n O) (hj : ∀ r, lvOf (some (j, r)) ≤ n)
    (f : Fin 15 → Pg F PUnit)
    (hf : ∀ r, ∃ w : TpuEff nD τ sig (Elt F) Λ₀ .tc PUnit, f r = Prog.lift w
      ∧ ∀ Kt : PUnit → sProp 𝕄, wpE (defs₀ (F := F)) 𝒱₀ (c : Thread nD τ) none Set.univ w Kt = waitSpec (c : Thread nD τ) Set.univ (csem (some (j, r))) N Kt)
    (l : List (Fin 15)) (h : Finset.univ = l.toFinset) (hl : l.Nodup) (k : PUnit → Pg F PUnit) (Q : PUnit → sProp 𝕄) :
    iprop((records m ρ K ∗ levAts L lv) ∗ owesE c O
        ∗ bigSep Finset.univ fun r : Fin 15 => iprop(cred (tallyAt (kcell c (some (j, r))) () N) ∗ atPos ER (kcell c (some (j, r))) 0 ∅ 0))
      ⊢ iprop(((owesE c O ∗ bigSep Finset.univ fun r : Fin 15 => iprop(pay m ρ c (some (j, r)) r ∗ semVal (kcell c (some (j, r))) 0)) -∗ wpc c (k ⟨⟩) Q)
          -∗ wpc c (forEach f l >>= k) Q) := by
  refine (wp_loop c iprop(records m ρ K ∗ levAts L lv) f (fun _ => owesE c O) _ _ (fun r l k Q => ?_) k Q l h hl)
  obtain ⟨w, hw, hs⟩ := hf r
  rw [hw]
  exact wait_step m ρ K c j r n O hO (hj r) w hs k Q

/-! ## The straight pieces -/

/-- The rows loaded of the operand are the device's own, … -/
theorem xOwn_set : (xM.access (rOwn c) : View sig .tc _ _ _).set = (rowBlk c).set := (View.set_slice_whole _ _).trans (rOwn_set c)
/-- … and so are the rows stored of the result. -/
theorem oOwn_set : (oM.access (rOwn c) : View sig .tc _ _ _).set = (rowBlk c).set := (View.set_slice_whole _ _).trans (rOwn_set c)
/-- The store of the device's own rows is into slot 0. -/
theorem lOwn_set : (lM.access r1a : View sig .tc _ _ _).set = (slotBlk 0).set := View.set_slice_whole _ _

/-- The device's own rows of its operand into slot 0. -/
theorem own_stage (k : PUnit → Pg F PUnit) (Q : PUnit → sProp 𝕄) :
    iprop(xPts m ρ c c ∗ ∃ f, lPts c 0 f)
      ⊢ iprop(((xPts m ρ c c ∗ lPts c 0 (landed m ρ c)) -∗ wpc c (k ⟨⟩) Q) -∗ wpc c (ownStep xM lM c >>= k) Q) := by
  have hx : xM.view.setOn (rOwn c).toLoadRect.set ⊆ (rowBlk c).set := by
    have h := xOwn_set c; rw [View.set_slice] at h; exact h.subset
  have hl : lM.view.setOn r1a.toLoadRect.set ⊆ (slotBlk 0).set := by
    have h := lOwn_set; rw [View.set_slice] at h; exact h.subset
  have hw : ∀ f : Buf (Elt F) ((c : Thread nD τ).loc cc0_scratch0),
      (((c : Thread nD τ).loc cc0_scratch0) ↦[(slotBlk 0).set]{fullShare} (lM.access r1a : View sig .tc _ _ _).write (Elt F) f (k0_pay1 (xM.view.readAt (Elt F) (rOwn c).toLoadRect (xstg m ρ c))) Finset.univ : sProp 𝕄)
      ⊢ (((c : Thread nD τ).loc cc0_scratch0) ↦[(slotBlk 0).set]{fullShare} landed m ρ c) := fun f => by
    rw [← lOwn_set]; exact Entails.of_eq (pointsTo_congr (own_write m ρ c f))
  unfold ownStep
  simp only [Prog.lift, Prog.bind_op, Prog.bind_ret]
  iintro ⟨Hx, ⟨%f, Hl⟩⟩ Hk
  unfold xPts
  iapply (wp_load 𝒱₀ (c : Thread nD τ) none Set.univ (m := xM) hx) $$ Hx; iintro Hx
  unfold lPts
  iapply (wp_load 𝒱₀ (c : Thread nD τ) none Set.univ (m := lM) hl) $$ Hl; iintro Hl
  iapply (wp_store 𝒱₀ (c : Thread nD τ) none Set.univ (m := lM) (r := r1a) (Mk := Finset.univ) lOwn_set.subset) $$ Hl; iintro Hl
  iapply Hk
  isplitl [Hx]; · iexact Hx
  iapply (hw f); iexact Hl

/-- The 16 slots summed. -/
theorem sum_stage (k : PUnit → Pg F PUnit) (Q : PUnit → sProp 𝕄) :
    iprop((((c : Thread nD τ).loc cc0_scratch0) ↦{fullShare} landed m ρ c) ∗ ∃ f, ((c : Thread nD τ).loc cc0_scratch1) ↦{fullShare} f)
      ⊢ iprop((((∃ f, ((c : Thread nD τ).loc cc0_scratch0) ↦{fullShare} f) ∗ (((c : Thread nD τ).loc cc0_scratch1) ↦{fullShare} red m ρ c)) -∗ wpc c (k ⟨⟩) Q)
          -∗ wpc c (sumStep lM dM >>= k) Q) := by
  unfold sumStep
  simp only [Prog.lift, Prog.bind_op, Prog.bind_ret]
  iintro ⟨Hl, ⟨%f, Hd⟩⟩ Hk
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := r8a) (Mk := Finset.univ) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := r4a) (Mk := Finset.univ) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := r2a) (Mk := Finset.univ) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_load 𝒱₀ (c : Thread nD τ) none Set.univ (m := dM) (Finset.subset_univ _)) $$ Hd; iintro Hd
  iapply (wp_store 𝒱₀ (c : Thread nD τ) none Set.univ (m := dM) (r := rD) (Mk := Finset.univ) (Finset.subset_univ _)) $$ Hd; iintro Hd
  rw [write_red]
  iapply Hk
  isplitl [Hl]; · iexists _; iexact Hl
  iexact Hd

/-- The device's own reduced rows into its own rows of the result. -/
theorem out_stage (k : PUnit → Pg F PUnit) (Q : PUnit → sProp 𝕄) :
    iprop(dPts m ρ c 0 ∗ ∃ f, oPts c c f)
      ⊢ iprop(((dPts m ρ c 0 ∗ oPts c c (outVal m ρ)) -∗ wpc c (k ⟨⟩) Q) -∗ wpc c (outStep oM dM c >>= k) Q) := by
  have ho : oM.view.setOn (rOwn c).toLoadRect.set ⊆ (rowBlk c).set := by
    have h := oOwn_set c; rw [View.set_slice] at h; exact h.subset
  have hw : ∀ f : Buf (Elt F) ((c : Thread nD τ).loc cc0_stg1_0),
      (((c : Thread nD τ).loc cc0_stg1_0) ↦[(rowBlk c).set]{fullShare} (oM.access (rOwn c) : View sig .tc _ _ _).write (Elt F) f (red m ρ c) Finset.univ : sProp 𝕄)
      ⊢ (((c : Thread nD τ).loc cc0_stg1_0) ↦[(rowBlk c).set]{fullShare} outVal m ρ) := fun f => by
    rw [← oOwn_set c]; exact Entails.of_eq (pointsTo_congr (out_write m ρ c f))
  unfold outStep
  simp only [Prog.lift, Prog.bind_op, Prog.bind_ret]
  iintro ⟨Hd, ⟨%f, Ho⟩⟩ Hk
  unfold dPts
  iapply (wp_load 𝒱₀ (c : Thread nD τ) none Set.univ (m := dM) (Finset.subset_univ _)) $$ Hd; iintro Hd
  rw [read_red]
  unfold oPts
  iapply (wp_load 𝒱₀ (c : Thread nD τ) none Set.univ (m := oM) ho) $$ Ho; iintro Ho
  iapply (wp_store 𝒱₀ (c : Thread nD τ) none Set.univ (m := oM) (r := rOwn c) (Mk := Finset.univ) (oOwn_set c).subset) $$ Ho; iintro Ho
  iapply Hk
  isplitl [Hd]; · iexact Hd
  iapply (hw f); iexact Ho

end Stages

end Cert.KernelIdealProof

end
-- ==== Proof.KernelIdealBody.lean ====
/-
  The whole body of a device, from what the launch gives it to what it leaves: its stages one after another.
-/
module

public import proofs.«01_k».proof.Proof.KernelIdealStages

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Cell → ℕ) (c : Dev nD)

/-! ## What the body starts from and ends with -/

/-- Device `c`'s positions at the cells of row `j`, … -/
def posRow (j : Fin 4) : sProp 𝕄 := bigSep Finset.univ fun r : Fin 15 => atPos ER (kcell c (some (j, r))) 0 ∅ 0
/-- … those cells closed at zero, … -/
def zeroRow (j : Fin 4) : sProp 𝕄 := bigSep Finset.univ fun r : Fin 15 => semVal (kcell c (some (j, r))) 0
/-- … the duties it pays at its own cells of a row, … -/
def tokOwn (j : Fin 4) : sProp 𝕄 := bigSep Finset.univ fun r : Fin 15 => dutyTok ER (kcell c (some (j, r))) 0 r
/-- … those it pays at its peers' cells of a row, … -/
def tokPeer (j : Fin 4) : sProp 𝕄 := bigSep Finset.univ fun r : Fin 15 => dutyTok ER (kcell (peer c r) (some (j, r))) 0 r
/-- … and at its peers' barriers, … -/
def tokBar : sProp 𝕄 := bigSep Finset.univ fun r : Fin 15 => dutyTok ER (kcell (peer c r) none) 0 r
/-- … and the credit to wait at its own cells of a row. -/
def credRow (j : Fin 4) : sProp 𝕄 := bigSep Finset.univ fun r : Fin 15 => cred (tallyAt (kcell c (some (j, r))) () N)

/-- What device `c` owes at launch: its copies of the all-gather, its copies of the reduce-scatter, its signals. -/
def O₀ : CellTallies nD τ sig Unit := (talL (payRow 3 c) down + talL (payRow 1 c) down) + talL (payBar c) up

/-- The cells' state device `c` starts from. -/
def ghost : sProp 𝕄 :=
  iprop(records m ρ K ∗ atPos ER (kcell c none) 0 ∅ 0 ∗ posRow c 0 ∗ posRow c 1 ∗ posRow c 2 ∗ posRow c 3
    ∗ tokBar c ∗ tokOwn c 0 ∗ tokPeer c 1 ∗ tokOwn c 2 ∗ tokPeer c 3)

/-- Its waiting credits for what others pay it, and the levels. -/
def credits : sProp 𝕄 := iprop(cred (tallyAt (kcell c none) () 15) ∗ credRow c 1 ∗ credRow c 3 ∗ levAts L lv)

/-- The landing slots and the reduced rows, at any contents. -/
def scratch : sProp 𝕄 :=
  iprop((∃ f, ((c : Thread nD τ).loc cc0_scratch0) ↦{fullShare} f) ∗ ∃ f, ((c : Thread nD τ).loc cc0_scratch1) ↦{fullShare} f)

/-- Every cell closed at zero. -/
def zeros : sProp 𝕄 := iprop(semVal (kcell c none) 0 ∗ zeroRow c 0 ∗ zeroRow c 1 ∗ zeroRow c 2 ∗ zeroRow c 3)

/-! ## Families taken apart and put together -/

omit [FloatOps F] in
theorem l_split_any : iprop(∃ f, ((c : Thread nD τ).loc cc0_scratch0) ↦{fullShare} f)
    ⊢ (iprop((∃ f, lPts c 0 f) ∗ bigSep Finset.univ fun r : Fin 15 => iprop(∃ f, lPts c r.succ f)) : sProp 𝕄) := by
  have h : ∀ f : Buf (Elt F) ((c : Thread nD τ).loc cc0_scratch0), (bigSep Finset.univ fun r : Fin 15 => (lPts c r.succ f : sProp 𝕄))
      ⊢ bigSep Finset.univ fun r : Fin 15 => iprop(∃ f, lPts c r.succ f) := fun f =>
    bigSep_mono fun r _ => (show lPts (F := F) c r.succ f ⊢ iprop(∃ f, lPts c r.succ f) from by iintro H; iexists f; iexact H)
  iintro ⟨%f, H⟩
  ihave H := Entails.of_eq (l_split c f) $$ H
  icases H with ⟨H0, H⟩
  isplitl [H0]; · iexists f; iexact H0
  iapply (h f); iexact H

omit [FloatOps F] in
theorem o_split_any : iprop(∃ f, ((c : Thread nD τ).loc cc0_stg1_0) ↦{fullShare} f)
    ⊢ (iprop((∃ f, oPts c c f) ∗ bigSep Finset.univ fun r : Fin 15 => iprop(∃ f, oPts c (peer c r) f)) : sProp 𝕄) := by
  have h : ∀ f : Buf (Elt F) ((c : Thread nD τ).loc cc0_stg1_0), (bigSep Finset.univ fun r : Fin 15 => (oPts c (peer c r) f : sProp 𝕄))
      ⊢ bigSep Finset.univ fun r : Fin 15 => iprop(∃ f, oPts c (peer c r) f) := fun f =>
    bigSep_mono fun r _ => (show oPts (F := F) c (peer c r) f ⊢ iprop(∃ f, oPts c (peer c r) f) from by iintro H; iexists f; iexact H)
  iintro ⟨%f, H⟩
  ihave H := Entails.of_eq (o_split c f) $$ H
  icases H with ⟨H0, H⟩
  isplitl [H0]; · iexists f; iexact H0
  iapply (h f); iexact H

/-- What the 15 signals bring: the peers' landing slots and rows of the result. -/
theorem signals_bring : (bigSep Finset.univ fun d => pay m ρ c none d)
    ⊢ iprop((bigSep Finset.univ fun r : Fin 15 => iprop(∃ f, lPts (F := F) (peer c r) r.succ f))
        ∗ bigSep Finset.univ fun r : Fin 15 => iprop(∃ f, oPts (F := F) (peer c r) c f)) :=
  Entails.of_eq (bigSep_sep' Finset.univ (fun r : Fin 15 => iprop(∃ f, lPts (F := F) (peer c r) r.succ f)) fun r => iprop(∃ f, oPts (F := F) (peer c r) c f))

/-- What a loop of waits brings: the payloads, and the row closed. -/
theorem row_brings (j : Fin 4) (Φ : Fin 15 → sProp 𝕄) (h : ∀ r, pay m ρ c (some (j, r)) r = Φ r) :
    (bigSep Finset.univ fun r : Fin 15 => iprop(pay m ρ c (some (j, r)) r ∗ semVal (kcell c (some (j, r))) 0))
      ⊢ iprop((bigSep Finset.univ Φ) ∗ zeroRow c j) := by
  rw [bigSep_sep', bigSep_congr fun r _ => h r]; exact BI.Entails.refl _

/-! ## The body -/

/-- Before the barrier's wait only copies are still owed, all above the barrier's level. -/
theorem above_bar : Above 1 (talL (payRow 3 c) down + talL (payRow 1 c) down) :=
  above_add (above_talL (fun r => above_tallyAt _ _ _ (by show 1 < 3; omega)) _) (above_talL (fun r => above_tallyAt _ _ _ (by show 1 < 2; omega)) _)
/-- Before the waits of the reduce-scatter only the all-gather's copies are still owed. -/
theorem above_scatter : Above 2 (talL (payRow 3 c) down) := above_talL (fun r => above_tallyAt _ _ _ (by show 2 < 3; omega)) _

/-- What is owed, with a zero put in front. -/
theorem owesE_zero_add : (owesE c (talL (payRow 3 c) down) : sProp 𝕄) ⊢ owesE c (0 + talL (payRow 3 c) down) :=
  Entails.of_eq (congrArg (owesE c) (zero_add _).symm)

/-- The body of device `c`: from its cells' state, its operand staged and its other buffers at any contents, it ends with the
    result staged, its buffers whole again, every cell closed and nothing owed. -/
theorem body_run (Q : PUnit → sProp 𝕄) :
    iprop((ghost m ρ K c ∗ credits c ∗ scratch c ∗ owesE c (O₀ c)
          ∗ (((c : Thread nD τ).loc cc0_stg0_0) ↦{fullShare} xstg m ρ c) ∗ ∃ f, ((c : Thread nD τ).loc cc0_stg1_0) ↦{fullShare} f)
        ∗ ((scratch c ∗ zeros c ∗ owesE c 0
          ∗ (((c : Thread nD τ).loc cc0_stg0_0) ↦{fullShare} xstg m ρ c) ∗ (((c : Thread nD τ).loc cc0_stg1_0) ↦{fullShare} outVal m ρ)) -∗ Q ⟨⟩))
      ⊢ wpc c (bodyOf xM oM lM dM (Memref.isWhole_whole _) cc0_scratch2 cc0_scratch3 cc0_scratch4 cc0_scratch5 c) Q := by
  unfold bodyOf
  rw [← Prog.bind_pure (forEach (gatherSent oM dM (Memref.isWhole_whole _) cc0_scratch4 c) down)]
  unfold ghost credits scratch O₀
  iintro ⟨⟨⟨#HR, HaB, Ha0, Ha1, Ha2, Ha3, HtB, Ht0, Ht1, Ht2, Ht3⟩, ⟨HcB, Hc1, Hc3, #Hlev⟩, ⟨Hl, Hd⟩, HO, Hx, Ho⟩, HQ⟩
  ihave Hl := l_split_any c $$ Hl
  icases Hl with ⟨Hl0, Hl⟩
  ihave Ho := o_split_any c $$ Ho
  icases Ho with ⟨Ho0, Ho⟩
  ihave Hx := Entails.of_eq (x_split m ρ c) $$ Hx
  icases Hx with ⟨Hx0, Hx⟩
  -- the signals
  iapply (signal_loop m ρ K c) $$ [HO HtB Hl Ho]
  · isplitr; · iexact HR
    isplitl [HO]; · iexact HO
    rw [bigSep_sep', bigSep_sep']
    isplitl [HtB]; · unfold tokBar; iexact HtB
    isplitl [Hl]; · iexact Hl
    iexact Ho
  iintro ⟨HO, -⟩
  -- the barrier
  iapply (barrier_step m ρ K c _ (above_bar c)) $$ [HO HcB HaB]
  · isplitr; · isplitr; · iexact HR
               iexact Hlev
    isplitl [HO]; · iexact HO
    isplitl [HcB]; · iexact HcB
    iexact HaB
  iintro ⟨HO, Hpay, HzB⟩
  ihave Hp := signals_bring m ρ c $$ Hpay
  icases Hp with ⟨Hl, Ho⟩
  -- the reduce-scatter
  iapply (scatter_loop m ρ K c) $$ [HO Ht0 Ht1 Hx Hl]
  · isplitr; · iexact HR
    isplitl [HO]; · iexact HO
    rw [bigSep_sep', bigSep_sep', bigSep_sep']
    isplitl [Ht0]; · unfold tokOwn; iexact Ht0
    isplitl [Ht1]; · unfold tokPeer; iexact Ht1
    isplitl [Hx]; · iexact Hx
    iexact Hl
  iintro ⟨HO, Hc0⟩
  iapply (own_stage m ρ c) $$ [Hx0 Hl0]
  · isplitl [Hx0]; · iexact Hx0
    iexact Hl0
  iintro ⟨Hx0, Hl0⟩
  iapply (wait_loop m ρ K c 1 2 _ (above_scatter c) (fun r => Nat.le_refl 2) (scatterRecv xM lM cc0_scratch3 c)
    (fun r => ⟨_, rfl, wpE_waitDma2_eq 𝒱₀ (c : Thread nD τ) none Set.univ⟩) up up_all up_nodup) $$ [HO Hc1 Ha1]
  · isplitr; · isplitr; · iexact HR
               iexact Hlev
    isplitl [HO]; · iexact HO
    rw [bigSep_sep']
    isplitl [Hc1]; · unfold credRow; iexact Hc1
    unfold posRow; iexact Ha1
  iintro ⟨HO, Hpay⟩
  ihave Hp := row_brings m ρ c 1 (fun r => lPts c r.succ (landed m ρ c)) (fun r => rfl) $$ Hpay
  icases Hp with ⟨Hl, Hz1⟩
  -- the sum
  ihave Hl := Entails.of_eq (l_split c (landed m ρ c)).symm $$ [Hl0 Hl]
  · isplitl [Hl0]; · iexact Hl0
    iexact Hl
  iapply (sum_stage m ρ c) $$ [Hl Hd]
  · isplitl [Hl]; · iexact Hl
    iexact Hd
  iintro ⟨Hl, Hd⟩
  ihave Hd := Entails.of_eq (d_split m ρ c) $$ Hd
  icases Hd with ⟨Hd0, Hd⟩
  -- the all-gather
  ihave HO := owesE_zero_add c $$ HO
  iapply (gather_loop m ρ K c) $$ [HO Ht2 Ht3 Hd Ho]
  · isplitr; · iexact HR
    isplitl [HO]; · iexact HO
    rw [bigSep_sep', bigSep_sep', bigSep_sep']
    isplitl [Ht2]; · unfold tokOwn; iexact Ht2
    isplitl [Ht3]; · unfold tokPeer; iexact Ht3
    isplitl [Hd]; · iexact Hd
    iexact Ho
  iintro ⟨HO, Hc2⟩
  iapply (out_stage m ρ c) $$ [Hd0 Ho0]
  · isplitl [Hd0]; · iexact Hd0
    iexact Ho0
  iintro ⟨Hd0, Ho0⟩
  iapply (wait_loop m ρ K c 3 3 0 (above_zero 3) (fun r => Nat.le_refl 3) (gatherRecv oM dM (Memref.isWhole_whole _) cc0_scratch5 c)
    (fun r => ⟨_, rfl, wpE_waitDma2_eq 𝒱₀ (c : Thread nD τ) none Set.univ⟩) down down_all down_nodup) $$ [HO Hc3 Ha3]
  · isplitr; · isplitr; · iexact HR
               iexact Hlev
    isplitl [HO]; · iexact HO
    rw [bigSep_sep']
    isplitl [Hc3]; · unfold credRow; iexact Hc3
    unfold posRow; iexact Ha3
  iintro ⟨HO, Hpay⟩
  ihave Hp := row_brings m ρ c 3 (fun r => oPts c (peer c r) (outVal m ρ)) (fun r => rfl) $$ Hpay
  icases Hp with ⟨Ho, Hz3⟩
  iapply (wait_loop m ρ K c 0 3 0 (above_zero 3) (fun r => Nat.zero_le 3) (scatterSent xM lM cc0_scratch2 c)
    (fun r => ⟨_, rfl, wpE_waitDma2_eq 𝒱₀ (c : Thread nD τ) none Set.univ⟩) up up_all up_nodup) $$ [HO Hc0 Ha0]
  · isplitr; · isplitr; · iexact HR
               iexact Hlev
    isplitl [HO]; · iexact HO
    rw [bigSep_sep']
    isplitl [Hc0]; · iexact Hc0
    unfold posRow; iexact Ha0
  iintro ⟨HO, Hpay⟩
  ihave Hp := row_brings m ρ c 0 (fun r => xPts m ρ c (peer c r)) (fun r => rfl) $$ Hpay
  icases Hp with ⟨Hx, Hz0⟩
  iapply (wait_loop m ρ K c 2 3 0 (above_zero 3) (fun r => Nat.zero_le 3) (gatherSent oM dM (Memref.isWhole_whole _) cc0_scratch4 c)
    (fun r => ⟨_, rfl, wpE_waitDma2_eq 𝒱₀ (c : Thread nD τ) none Set.univ⟩) down down_all down_nodup) $$ [HO Hc2 Ha2]
  · isplitr; · isplitr; · iexact HR
               iexact Hlev
    isplitl [HO]; · iexact HO
    rw [bigSep_sep']
    isplitl [Hc2]; · iexact Hc2
    unfold posRow; iexact Ha2
  iintro ⟨HO, Hpay⟩
  ihave Hp := row_brings m ρ c 2 (fun r => dPts m ρ c r.succ) (fun r => rfl) $$ Hpay
  icases Hp with ⟨Hd, Hz2⟩
  -- the end
  ihave Hd := Entails.of_eq (d_split m ρ c).symm $$ [Hd0 Hd]
  · isplitl [Hd0]; · iexact Hd0
    iexact Hd
  ihave Hx := Entails.of_eq (x_split m ρ c).symm $$ [Hx0 Hx]
  · isplitl [Hx0]; · iexact Hx0
    iexact Hx
  ihave Ho := Entails.of_eq (o_split c (outVal m ρ)).symm $$ [Ho0 Ho]
  · isplitl [Ho0]; · iexact Ho0
    iexact Ho
  rw [Prog.pure_eq_ret]; unfold wpc; rw [wp_ret]; imodintro
  iapply HQ
  isplitl [Hl Hd]
  · isplitl [Hl]; · iexact Hl
    iexists _; iexact Hd
  isplitl [HzB Hz0 Hz1 Hz2 Hz3]
  · unfold zeros
    isplitl [HzB]; · iexact HzB
    isplitl [Hz0]; · iexact Hz0
    isplitl [Hz1]; · iexact Hz1
    isplitl [Hz2]; · iexact Hz2
    iexact Hz3
  isplitl [HO]; · iexact HO
  isplitl [Hx]; · iexact Hx
  iexact Ho

end Body

end Cert.KernelIdealProof

end
-- ==== Proof.KernelIdealRun.lean ====
/-
  The run of the sixteen devices: what the launch gives each of them, and what they end with.
-/
module

public import proofs.«01_k».proof.Proof.KernelIdealBody
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (pointsTo_blocks)
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ) (ρ : Dev nD → PrngReg)

/-! ## The grid's one point -/

/-- What device `c`'s body starts from, … -/
def start (c : Dev nD) : sProp 𝕄 := iprop((∃ K, ghost m ρ K c) ∗ credits c)
/-- … with its scratch buffers; … -/
def Φ₀ (c : Dev nD) : sProp 𝕄 := iprop(start m ρ c ∗ scratch c)
/-- … and what it leaves. -/
def Φ₁ (c : Dev nD) : sProp 𝕄 := iprop(scratch c ∗ zeros c)

/-- The grid has one point; it stages the operand in, and the result, as computed, out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outVal m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The operand is staged at the one point. -/
theorem fetch_x (t : Fin cfg0.N) : (cfg0.win (0 : Fin 2)).fetch t = true := by rw [fin_N0 t]; rfl

omit [FloatOps F] in
/-- A whole buffer owned at contents that read to `X`. -/
theorem owns_whole_eq (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ (((c : Thread nD τ).loc b) ↦{fullShare} f)) := by
  unfold owns; simp only [Memref.view_whole, View.read_whole, View.set_whole]

/-- What a point stages of the operand is what the launch left in it. -/
theorem before_x (c : Dev nD) (d) : (dats m ρ 0 c).before (0 : Fin 2) t0_0 d = xstg m ρ c := by
  unfold Dat.before; rw [if_pos (fetch_x t0_0)]; rfl

set_option maxRecDepth 16384 in
/-- The body, run at the point, keeps what the launch asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, ∃ f : Buf (Elt F) ((c : Thread nD τ).loc cc0_stg0_0), ⌜f = (dats m ρ 0 c).before (0 : Fin 2) t0_0 d⌝ ∗ (((c : Thread nD τ).loc cc0_stg0_0) ↦{fullShare} f))
      ∗ (∃ d, ∃ f : Buf (Elt F) ((c : Thread nD τ).loc cc0_stg1_0), ⌜f = (dats m ρ 0 c).before (1 : Fin 2) t0_0 d⌝ ∗ (((c : Thread nD τ).loc cc0_stg1_0) ↦{fullShare} f)))
    ⊢ wp frame (wpE (defs₀ (F := F)) 𝒱₀ (c : Thread nD τ) none) Set.univ
      (cc0_body xM (Memref.isWhole_whole _) oM (Memref.isWhole_whole _) lM (Memref.isWhole_whole _) dM (Memref.isWhole_whole _)
        cc0_scratch2 cc0_scratch3 cc0_scratch4 cc0_scratch5)
      (fun _ => iprop(Φ₁ c ∗ (dats m ρ 0 c).owesAt () t0_0.succ
        ∗ (∃ f : Buf (Elt F) ((c : Thread nD τ).loc cc0_stg0_0), ⌜f = xstg m ρ c⌝ ∗ (((c : Thread nD τ).loc cc0_stg0_0) ↦{fullShare} f))
        ∗ (∃ f : Buf (Elt F) ((c : Thread nD τ).loc cc0_stg1_0), ⌜f = outVal m ρ⌝ ∗ (((c : Thread nD τ).loc cc0_stg1_0) ↦{fullShare} f))))
  rw [body_eq, wp_deviceId]
  unfold Φ₀ Φ₁ start Dat.owesAt Pipeline.owesWithin
  rw [show (dats m ρ 0 c).owed t0_0.castSucc = O₀ c from rfl, show (dats m ρ 0 c).owed t0_0.succ = 0 from rfl]
  iintro ⟨⟨⟨⟨%K, Hg⟩, Hc⟩, Hs⟩, ⟨%W, %hW, HO⟩, ⟨%d, %f, %hf, Hx⟩, ⟨%d', %g, %hg, Ho⟩⟩
  rw [before_x] at hf
  subst hf
  iapply (body_run m ρ K c)
  isplitl
  · isplitl [Hg]; · iexact Hg
    isplitl [Hc]; · iexact Hc
    isplitl [Hs]; · iexact Hs
    isplitl [HO]; · unfold owesE; iexists W; iexact HO
    isplitl [Hx]; · iexact Hx
    iexists g; iexact Ho
  · unfold owesE
    iintro ⟨Hs, Hz, ⟨%W', HO⟩, Hx, Ho⟩
    isplitl [Hs Hz]; · isplitl [Hs] <;> iassumption
    isplitl [HO]
    · iexists W'; isplitr; · ipureintro; exact fun _ _ => Or.inl trivial
      iexact HO
    isplitl [Hx]
    · iexists _; isplitr; · (ipureintro; rfl)
      iexact Hx
    iexists _; isplitr; · (ipureintro; rfl)
    iexact Ho

/-! ## The cells and tokens the launch mints -/

/-- The kernel's own semaphores: those of the copies. -/
abbrev osem (x : Fin 4 × Fin 15) : SemLoc sig := csem (some x)

/-- The copies' semaphores are the kernel's own, each different from the others and from the staging ones. -/
theorem ownSemFacts : Pipeline.OwnSemFacts cfg0.spec osem :=
  ⟨by decide +kernel, fun a b h => Option.some.inj (csem_injective h), by decide +kernel⟩

/-- Every window is held whole. -/
theorem share_eq (c : Dev nD) (w : Fin cfg0.W) : (dats m ρ 0 c).share w = fullShare := by unfold Dat.share; split <;> rfl

/-- Every device's cells, … -/
def allCells : Finset (GSem nD τ sig) :=
  Finset.univ.map ⟨fun cx : Dev nD × Cell => kcell cx.1 cx.2, fun a b h => Prod.ext (kcell_eq_iff.mp h).1 (kcell_eq_iff.mp h).2⟩

/-- … and the cell duty `r` of a row, or of the barrier, is at. -/
def tokCell : Option (Fin 4) → Fin 15 → Cell
  | none, _ => none
  | some j, r => some (j, r)

/-- Different duties have different tokens. -/
theorem tok_injective : Function.Injective fun t : Dev nD × Option (Fin 4) × Fin 15 => ((kcell t.1 (tokCell t.2.1 t.2.2), 0, t.2.2) : GSem nD τ sig × ℕ × Fin 15) := by
  rintro ⟨c, j, r⟩ ⟨c', j', r'⟩ h
  have hc := kcell_eq_iff.mp (congrArg (fun x : GSem nD τ sig × ℕ × Fin 15 => x.1) h)
  have hr : r = r' := congrArg (fun x : GSem nD τ sig × ℕ × Fin 15 => x.2.2) h
  have h1 : c = c' := hc.1
  have h2 : tokCell j r = tokCell j' r' := hc.2
  subst h1 hr
  have hj : j = j' := by
    cases j with
    | none => cases j' with
      | none => rfl
      | some j' => exact absurd h2 (by intro h; cases h)
    | some j => cases j' with
      | none => exact absurd h2 (by intro h; cases h)
      | some j' => exact congrArg some (congrArg Prod.fst (Option.some.inj h2))
  rw [hj]

/-- Every duty's token. -/
def allToks : Finset (GSem nD τ sig × ℕ × Fin 15) := Finset.univ.map ⟨_, tok_injective⟩

/-- The initial ghost state: the launch's own and the schedule's. -/
def u₀ : UU := (initOf (Pipeline.cells cfgs cellOf_inj) (Pipeline.launchToks cfgs cellOf_inj), initOf allCells allToks)

/-- The tokens of the duties at device `c`'s own cells. -/
def toks (c : Dev nD) : sProp 𝕄 :=
  bigSep Finset.univ fun j : Option (Fin 4) => bigSep Finset.univ fun r : Fin 15 => dutyTok ER (kcell c (tokCell j r)) 0 r

/-- What the launch deals device `c`, … -/
def G (c : Dev nD) : sProp 𝕄 :=
  iprop((bigSep Finset.univ fun x : Cell => roundState ER (rd m ρ) (kcell c x) 0)
    ∗ (bigSep Finset.univ fun x : Cell => atPos ER (kcell c x) 0 ∅ 0) ∗ (bigSep Finset.univ fun x : Cell => reached ER (kcell c x) 0) ∗ toks c)
/-- … and what the devices together make of it. -/
def G' (c : Dev nD) : sProp 𝕄 := iprop(∃ K, ghost m ρ K c)

omit [FloatOps F] in
/-- A family over a device's cells: the barrier's, and each row's. -/
theorem bigSep_cells (Φ : Cell → sProp 𝕄) : bigSep Finset.univ Φ = iprop(Φ none ∗ bigSep Finset.univ fun x : Fin 4 × Fin 15 => Φ (some x)) := by
  rw [bigSep_univ_equiv (Equiv.optionEquivSumPUnit (Fin 4 × Fin 15)).symm Φ, BI.bigSep_univ_sum,
    bigSep_univ_eq_bigSepL [(PUnit.unit : PUnit.{1})] (by decide) (by decide)]
  exact BI.Entails.antisymm BI.sep_comm BI.sep_comm

omit [FloatOps F] in
theorem bigSep_rows (Φ : Fin 4 × Fin 15 → sProp 𝕄) : bigSep Finset.univ Φ
    = iprop((bigSep Finset.univ fun r => Φ (0, r)) ∗ (bigSep Finset.univ fun r => Φ (1, r)) ∗ (bigSep Finset.univ fun r => Φ (2, r)) ∗ bigSep Finset.univ fun r => Φ (3, r)) := by
  rw [bigSep_univ_prod, bigSep_univ_eq_bigSepL [(0 : Fin 4), 1, 2, 3] (by decide) (by decide)]; rfl

/-- The initial ghost state of the schedule gives every device its part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Cell => Φ (kcell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_univ_prod]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

omit [FloatOps F] in
/-- The barrier semaphore is the launch's one semaphore that outlives the kernel. -/
theorem unscopedSems0_eq (c : Dev nD) : (unscopedSems0 c : sProp 𝕄) = semVal (kcell c none) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun x : Cell => semVal (kcell c x) 0 : sProp 𝕄) := by
  rw [bigSep_cells, unscopedSems0_eq]; exact BI.Entails.antisymm BI.sep_comm BI.sep_comm

/-- Device `c`'s cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (rd m ρ) κ (kcell c x)))
          ∗ (bigSep Finset.univ fun x : Cell => atPos ER (kcell c x) 0 ∅ 0) ∗ (bigSep Finset.univ fun x : Cell => reached ER (kcell c x) 0) ∗ toks c) := by
  have h : iprop((bigSep Finset.univ fun x : Cell => semVal (kcell c x) 0) ∗ bigSep Finset.univ fun x : Cell => roundState ER (rd m ρ) (kcell c x) 0)
      ⊢ (|={Set.univ}=> bigSep Finset.univ fun x => iprop(∃ κ : ℕ, cellInv ER (rd m ρ) κ (kcell c x)) : sProp 𝕄) := by
    rw [← bigSep_sep']
    exact (bigSep_mono fun x _ => (Rounds.body_intro ER (rd m ρ) (kcell c x)).trans inv_alloc).trans (bigSep_fupd _ _)
  unfold G
  iintro ⟨Hos, Hus, Hst, Hat, Hr, Htok⟩
  ihave Hv := (Entails.of_eq (sems0_eq (F := F) c)) $$ [Hos Hus]
  · isplitl [Hos] <;> iassumption
  imod h $$ [Hv Hst] with Hinv
  · isplitl [Hv] <;> iassumption
  imodintro
  isplitl [Hinv]; · iexact Hinv
  isplitl [Hat]; · iexact Hat
  isplitl [Hr]; · iexact Hr
  iexact Htok

/-- The tokens of the duties device `c` itself pays. -/
def payToks (c : Dev nD) : sProp 𝕄 := iprop(tokBar c ∗ tokOwn c 0 ∗ tokPeer c 1 ∗ tokOwn c 2 ∗ tokPeer c 3)

omit [FloatOps F] in
/-- A family dealt to the payer instead of the owner. -/
theorem deal_peers (Φ : Dev nD → Fin 15 → sProp 𝕄) :
    (bigSep Finset.univ fun c : Dev nD => bigSep Finset.univ fun r => Φ c r) = bigSep Finset.univ fun c : Dev nD => bigSep Finset.univ fun r => Φ (peer c r) r := by
  rw [bigSep_univ_comm, bigSep_univ_comm (fun (c : Dev nD) (r : Fin 15) => Φ (peer c r) r)]
  exact bigSep_congr fun r _ => bigSep_univ_equiv (peerEquiv r) fun c => Φ c r

omit [FloatOps F] in
theorem toks_dealt : (bigSep Finset.univ fun c : Dev nD => (toks c : sProp 𝕄)) = bigSep Finset.univ fun c : Dev nD => payToks c := by
  have h : (fun c : Dev nD => (toks c : sProp 𝕄)) = fun c => iprop((bigSep Finset.univ fun r : Fin 15 => dutyTok ER (kcell c none) 0 r)
      ∗ tokOwn c 0 ∗ tokOwn c 1 ∗ tokOwn c 2 ∗ tokOwn c 3) := funext fun c => by
    unfold toks; rw [bigSep_univ_eq_bigSepL [none, some (0 : Fin 4), some 1, some 2, some 3] (by decide) (by decide)]; rfl
  have hp (j : Fin 4) : (bigSep Finset.univ fun c : Dev nD => (tokOwn c j : sProp 𝕄)) = bigSep Finset.univ fun c : Dev nD => tokPeer c j :=
    deal_peers fun c r => dutyTok ER (kcell c (some (j, r))) 0 r
  rw [h]
  unfold payToks
  simp only [bigSep_sep']
  rw [hp 1, hp 3, deal_peers (F := F) fun c r => dutyTok ER (kcell c none) 0 r]
  rfl

/-- What stays with device `c`: its positions, and the tokens it pays with. -/
def kept (c : Dev nD) : sProp 𝕄 := iprop((bigSep Finset.univ fun x : Cell => atPos ER (kcell c x) 0 ∅ 0) ∗ payToks c)

/-- A device's part of the ghost state, from the records and what stays with it. -/
theorem ghost_intro (K : Dev nD × Cell → ℕ) (c : Dev nD) : iprop(records m ρ K ∗ kept c) ⊢ G' m ρ c := by
  unfold kept payToks G' ghost posRow
  rw [bigSep_cells, bigSep_rows]
  iintro ⟨#H, ⟨Ha, H0, H1, H2, H3⟩, Ht⟩
  iexists K
  isplitr; · iexact H
  isplitl [Ha]; · iexact Ha
  isplitl [H0]; · iexact H0
  isplitl [H1]; · iexact H1
  isplitl [H2]; · iexact H2
  isplitl [H3]; · iexact H3
  iexact Ht

/-- The invariants are known to every device. -/
theorem regroup :
    (bigSep Finset.univ fun c : Dev nD => iprop((bigSep Finset.univ fun x => iprop(∃ κ : ℕ, cellInv ER (rd m ρ) κ (kcell c x)))
          ∗ (bigSep Finset.univ fun x : Cell => atPos ER (kcell c x) 0 ∅ 0) ∗ (bigSep Finset.univ fun x : Cell => reached ER (kcell c x) 0) ∗ toks c) : sProp 𝕄)
      ⊢ bigSep Finset.univ (G' m ρ) := by
  rw [bigSep_sep', bigSep_sep', bigSep_sep', toks_dealt,
    ← bigSep_univ_prod (fun cx : Dev nD × Cell => iprop(∃ κ : ℕ, cellInv ER (rd m ρ) κ (kcell cx.1 cx.2))),
    ← bigSep_univ_prod (fun cx : Dev nD × Cell => (reached ER (kcell cx.1 cx.2) 0 : sProp 𝕄))]
  iintro ⟨HI, Hat, #HR, Htok⟩
  ihave HK := (BI.bigSep_exists_pi Finset.univ (fun (cx : Dev nD × Cell) (κ : ℕ) => (cellInv ER (rd m ρ) κ (kcell cx.1 cx.2) : sProp 𝕄))) $$ HI
  icases HK with ⟨%K, #HI⟩
  iapply (Transfers.bigSep_mono_pers Finset.univ (records m ρ K) kept (G' m ρ) fun c _ => ghost_intro m ρ K c)
  isplitr
  · unfold records; isplitl; · iexact HI
    iexact HR
  · unfold kept; rw [bigSep_sep']
    isplitl [Hat]; · iexact Hat
    iexact Htok

/-- All the devices' parts together become invariants and what each device starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit the launch gives -/

omit [FloatOps F] in
/-- Everyone's copies on a row of semaphores credit that row. -/
theorem launch_row (j : Fin 4) (c : Dev nD) : ∀ l : List (Fin 15),
    (Pipeline.launchCred (fun d => talL (payRow j d) l) c : sProp 𝕄) ⊢ bigSepL l fun r => cred (tallyAt (kcell c (some (j, r))) () N)
  | [] => Entails.of_eq (Pipeline.launchCred_zero c)
  | r :: l => by
    rw [show (fun d => talL (payRow j d) (r :: l)) = fun d => talL (payRow j d) l + payRow j d r from rfl, Pipeline.launchCred_add, bigSepL_cons']
    iintro ⟨Hl, Hr⟩
    isplitl [Hr]
    · iapply (Pipeline.launchCred_tallyAt (csem (some (j, r))) (fun d => peer d r) (fun d => peer d r) (fun d => peer_peer d r) (fun d => peer_peer d r) () N c); iexact Hr
    · iapply (launch_row j c l); iexact Hl

omit [FloatOps F] in
/-- Everyone's signals credit the barrier. -/
theorem launch_bar (c : Dev nD) : ∀ l : List (Fin 15),
    (Pipeline.launchCred (fun d => talL (payBar d) l) c : sProp 𝕄) ⊢ cred (tallyAt (kcell c none) () l.length)
  | [] => by
    rw [show (fun d => talL (payBar d) []) = fun _ => (0 : CellTallies nD τ sig Unit) from rfl, Pipeline.launchCred_zero]
    rw [List.length_nil, tallyAt_zero, cred_zero]
  | r :: l => by
    rw [show (fun d => talL (payBar d) (r :: l)) = fun d => talL (payBar d) l + payBar d r from rfl, Pipeline.launchCred_add, List.length_cons, ← tallyAt_add]
    iintro ⟨Hl, Hr⟩
    iapply (cred_add _ _).2
    isplitl [Hl]
    · iapply (launch_bar c l); iexact Hl
    · iapply (Pipeline.launchCred_tallyAt (csem none) (fun d => peer d r) (fun d => peer d r) (fun d => peer_peer d r) (fun d => peer_peer d r) () 1 c); iexact Hr

omit [FloatOps F] in
theorem creds (c : Dev nD) : (Pipeline.launchCred O₀ c : sProp 𝕄) ⊢ iprop(cred (tallyAt (kcell c none) () 15) ∗ credRow c 1 ∗ credRow c 3) := by
  have h (j : Fin 4) : (bigSepL down fun r => (cred (tallyAt (kcell c (some (j, r))) () N) : sProp 𝕄)) ⊢ credRow c j :=
    Entails.of_eq (bigSep_univ_eq_bigSepL down down_all down_nodup _).symm
  rw [show (O₀ : Dev nD → CellTallies nD τ sig Unit) = fun d => (talL (payRow 3 d) down + talL (payRow 1 d) down) + talL (payBar d) up from rfl,
    Pipeline.launchCred_add, Pipeline.launchCred_add]
  iintro ⟨⟨H3, H1⟩, HB⟩
  isplitl [HB]; · iapply (launch_bar (F := F) c up); iexact HB
  isplitl [H1]
  · iapply (h 1); iapply (launch_row (F := F) 1 c down); iexact H1
  · iapply (h 3); iapply (launch_row (F := F) 3 c down); iexact H3

/-! ## The launch's conditions -/

/-- What the launch gives a device holds what its body starts from, … -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H1, H3⟩
  imodintro
  unfold start G' credits
  isplitl
  · isplitl [HG]; · iexact HG
    isplitl [HB]; · iexact HB
    isplitl [H1]; · iexact H1
    isplitl [H3]; · iexact H3
    iexact Hlev
  · iempintro

/-- … with the scratch buffers, … -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- … and what the body leaves is what the launch takes back. -/
theorem phi1_exit (c : Dev nD) :
    (dats m ρ 0 c).Φ (Fin.last cfg0.N) ⊢ iprop(unscopedSems0 c ∗ Pipeline.ownSems0 osem c ∗ Pipeline.scopedRest cfg0.spec c) := by
  have h : (Pipeline.ownSems0 osem c : sProp 𝕄) = iprop(zeroRow c 0 ∗ zeroRow c 1 ∗ zeroRow c 2 ∗ zeroRow c 3) := bigSep_rows _
  rw [show (dats m ρ 0 c).Φ (Fin.last cfg0.N) = Φ₁ c from rfl, scopedRest0_eq, h, unscopedSems0_eq]
  unfold Φ₁ scratch zeros
  iintro ⟨Hs, Hb, Hz⟩
  isplitl [Hb]; · iexact Hb
  isplitl [Hz] <;> iassumption

/-- Everything a device owes at its start is owed above level 0. -/
theorem above_O₀ (c : Dev nD) : Above 0 (O₀ c) :=
  above_add (above_add (above_talL (fun r => above_tallyAt _ _ _ (by show 0 < 3; omega)) _) (above_talL (fun r => above_tallyAt _ _ _ (by show 0 < 2; omega)) _))
    (above_talL (fun r => above_tallyAt _ _ _ (by show 0 < 1; omega)) _)

/-- So it may wait for the staging copies. -/
theorem waits (c : Dev nD) : (levAts L lv : sProp 𝕄) ⊢ Pipeline.cellsWaits cfgs (dats m ρ) () 0 c :=
  Pipeline.cellsWaits_intro cfgs (dats m ρ) () 0 c fun w s t =>
    mayWait (n := 0) (by
      rcases t with ⟨_ | _, ht⟩
      · exact above_O₀ c
      · exact above_zero 0) c _ (by fin_cases w <;> fin_cases s <;> decide +kernel)

/-! ## The run -/

/-- A window's array when the run is over. -/
def finalA (c : Dev nD) (w : Fin cfg0.W) : Buf (Elt F) ((cfg0.win w).arr.view.loc (c : Thread nD τ)) := (dats m ρ 0 c).arrAt w cfg0.N

/-- Every device's arrays are as computed. -/
def Ends : PUnit × MemSt nD τ sig (Elt F) → Prop := fun r =>
  ∀ c : Dev nD, ∀ w : Fin cfg0.W, r.2.mem ((cfg0.win w).arr.view.loc (c : Thread nD τ)) = finalA m ρ c w

/-- From any memory and with every counter zero, at any float values: every weakly fair execution of the sixteen devices ends, each
    with its arrays as computed and every counter zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array is as it was, … -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealValue.lean ====
/-
  What the result holds, over the extended reals: the sum of the devices' operands.
-/
module

public import proofs.«01_k».proof.Proof.KernelIdealRun
public import proofs.«01_k».proof.Proof.Gen.ReferenceIdeal.Run
public import Idealize.ShloMosaic.PureOps.Ideal
public import Idealize.ShloMosaic.Lib.Pointwise

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (pointsTo_blocks)
open Idealize.ShloMosaic.ShareLeaves (leaf pointsTo_leaves)

/-! ## One halving -/

section Halving

variable {F : FTy → Type} [FloatOps F]

/-- Row `a`, column `j` of slot `s`. -/
def slotIx (s a : Fin 16) (j : Fin 256) : S16x16x256.Idx := fun
  | ⟨0, _⟩ => s
  | ⟨1, _⟩ => a
  | ⟨2, _⟩ => j

/-- Slots `n` to `2 n` added to the first `n`: what the first `n` hold. -/
theorem halve_at (n : ℕ) (ha : ∀ a, (![0, 0, 0] : Fin 3 → Nat) a + (⟨3, ![n, 16, 256]⟩ : Shape).size a ≤ S16x16x256.size a)
    (hb : ∀ a, (![n, 0, 0] : Fin 3 → Nat) a + (⟨3, ![n, 16, 256]⟩ : Shape).size a ≤ S16x16x256.size a)
    (f : (cc0_scratch0 : Ref sig .tc).ty.Contents (Elt F)) (w : FVec F ⟨3, ![n, 16, 256]⟩ .f32)
    (hw : w = addf (lM.view.readAt (Elt F) (Rect.unit (s := S16x16x256) ![0, 0, 0] (⟨3, ![n, 16, 256]⟩ : Shape).size ha).toLoadRect f)
      (lM.view.readAt (Elt F) (Rect.unit (s := S16x16x256) ![n, 0, 0] (⟨3, ![n, 16, 256]⟩ : Shape).size hb).toLoadRect f))
    (s s' a : Fin 16) (j : Fin 256) (hs : s.val < n) (hs' : s'.val = s.val + n) :
    (lM.access (Rect.unit (s := S16x16x256) ![0, 0, 0] (⟨3, ![n, 16, 256]⟩ : Shape).size ha) : View sig .tc _ _ _).write (Elt F) f w Finset.univ (slotIx s a j)
      = FloatOps.addf (f (slotIx s a j)) (f (slotIx s' a j)) := by
  have e : ((lM.access (Rect.unit (s := S16x16x256) ![0, 0, 0] (⟨3, ![n, 16, 256]⟩ : Shape).size ha) : View sig .tc _ _ _).emb
      (ix3 (n0 := n) (n1 := 16) (n2 := 256) ⟨s.val, hs⟩ a j) : S16x16x256.Idx) = slotIx s a j := by
    funext b
    fin_cases b
    · exact Fin.ext (by show 0 + 1 * s.val = s.val; omega)
    · exact Fin.ext (by show 0 + 1 * a.val = a.val; omega)
    · exact Fin.ext (by show 0 + 1 * j.val = j.val; omega)
  have e' : (((Rect.unit (s := S16x16x256) ![n, 0, 0] (⟨3, ![n, 16, 256]⟩ : Shape).size hb).toLoadRect.idx
      (ix3 (n0 := n) (n1 := 16) (n2 := 256) ⟨s.val, hs⟩ a j)) : S16x16x256.Idx) = slotIx s' a j := by
    funext b
    fin_cases b
    · exact Fin.ext (by show n + 1 * s.val = s'.val; omega)
    · exact Fin.ext (by show 0 + 1 * a.val = a.val; omega)
    · exact Fin.ext (by show 0 + 1 * j.val = j.val; omega)
  rw [← e, View.write_emb_of_mem _ _ (Finset.mem_univ _), hw]
  exact congrArg (FloatOps.addf _) (congrArg f e')

/-- The first halving: slot `s` below 8 gains slot `s + 8`. -/
theorem half8_at (f : (cc0_scratch0 : Ref sig .tc).ty.Contents (Elt F)) (s s' a : Fin 16) (j : Fin 256) (hs : s.val < 8) (hs' : s'.val = s.val + 8) :
    half8 f (slotIx s a j) = FloatOps.addf (f (slotIx s a j)) (f (slotIx s' a j)) :=
  halve_at 8 _ _ f _ (shapeCast_id _ _) s s' a j hs hs'
/-- The second: slot `s` below 4 gains slot `s + 4`. -/
theorem half4_at (f : (cc0_scratch0 : Ref sig .tc).ty.Contents (Elt F)) (s s' a : Fin 16) (j : Fin 256) (hs : s.val < 4) (hs' : s'.val = s.val + 4) :
    half4 f (slotIx s a j) = FloatOps.addf (f (slotIx s a j)) (f (slotIx s' a j)) :=
  halve_at 4 _ _ f _ (shapeCast_id _ _) s s' a j hs hs'
/-- The third: slot `s` below 2 gains slot `s + 2`. -/
theorem half2_at (f : (cc0_scratch0 : Ref sig .tc).ty.Contents (Elt F)) (s s' a : Fin 16) (j : Fin 256) (hs : s.val < 2) (hs' : s'.val = s.val + 2) :
    half2 f (slotIx s a j) = FloatOps.addf (f (slotIx s a j)) (f (slotIx s' a j)) :=
  halve_at 2 _ _ f _ (shapeCast_id _ _) s s' a j hs hs'

/-- The last two slots added, their leading 1 dropped. -/
theorem half1_at (f : (cc0_scratch0 : Ref sig .tc).ty.Contents (Elt F)) (a : Fin 16) (j : Fin 256) :
    half1 f (ix16 a j) = FloatOps.addf (f (slotIx 0 a j)) (f (slotIx 1 a j)) := by
  have hq (h : S16x256.numel = S1x16x256.numel) : Shape.reshapeEquiv (s := S1x16x256) (s' := S16x256) h (ix16 a j) = ix3 (n0 := 1) (n1 := 16) (n2 := 256) 0 a j := by
    refine (Shape.reshapeEquiv_cons_one (d := ![16, 256]) _ (ix16 a j)).trans ?_
    funext b; fin_cases b <;> rfl
  have e (k : Fin 16) (hk : ∀ a, (![k.val, 0, 0] : Fin 3 → Nat) a + S1x16x256.size a ≤ S16x16x256.size a) (h : S1x16x256.ShapeCasts S16x256) :
      shapeCast S16x256 (lM.view.readAt (Elt F) (Rect.unit (s := S16x16x256) ![k.val, 0, 0] S1x16x256.size hk).toLoadRect f) h (ix16 a j) = f (slotIx k a j) := by
    rw [Pointwise.shapeCast_apply, hq]
    refine congrArg f (funext fun b => ?_)
    fin_cases b
    · exact Fin.ext (by show k.val + 1 * 0 = k.val; omega)
    · exact Fin.ext (by show 0 + 1 * a.val = a.val; omega)
    · exact Fin.ext (by show 0 + 1 * j.val = j.val; omega)
  unfold half1 k0_pay5
  rw [shapeCast_id]
  exact congrArg₂ FloatOps.addf (e 0 _ _) (e 1 _ _)

end Halving

/-! ## The sum of the slots -/

/-- Sixteen terms added by halving them four times. -/
theorem halvings_sum (g h8 h4 h2 : Fin 16 → EReal) (e8 : ∀ s s' : Fin 16, s.val < 8 → s'.val = s.val + 8 → h8 s = g s + g s')
    (e4 : ∀ s s' : Fin 16, s.val < 4 → s'.val = s.val + 4 → h4 s = h8 s + h8 s') (e2 : ∀ s s' : Fin 16, s.val < 2 → s'.val = s.val + 2 → h2 s = h4 s + h4 s') :
    h2 0 + h2 1 = ∑ s, g s := by
  have h16 : (∑ s, g s) = (∑ s : Fin 8, g (Fin.castAdd 8 s)) + ∑ s : Fin 8, g (Fin.natAdd 8 s) := Fin.sum_univ_add (a := 8) (b := 8) g
  rw [h16, ← Finset.sum_add_distrib, Finset.sum_congr rfl fun (s : Fin 8) _ => (e8 (Fin.castAdd 8 s) (Fin.natAdd 8 s) s.isLt (Nat.add_comm 8 s.val)).symm,
    Fin.sum_univ_eight]
  rw [e2 0 2 (by decide) rfl, e2 1 3 (by decide) rfl, e4 0 4 (by decide) rfl, e4 1 5 (by decide) rfl, e4 2 6 (by decide) rfl, e4 3 7 (by decide) rfl]
  show h8 0 + h8 4 + (h8 2 + h8 6) + (h8 1 + h8 5 + (h8 3 + h8 7)) = h8 0 + h8 1 + h8 2 + h8 3 + h8 4 + h8 5 + h8 6 + h8 7
  abel

/-- What a reduced row holds is the sum over the 16 slots. -/
theorem sumOf_at (f : S16x16x256.Idx → EReal) (a : Fin 16) (j : Fin 256) :
    sumOf (F := Ideal) f (ix16 a j) = ∑ s : Fin 16, f (slotIx s a j) :=
  (half1_at (F := Ideal) _ a j).trans (halvings_sum (fun s => f (slotIx s a j)) (fun s => half8 (F := Ideal) f (slotIx s a j))
    (fun s => half4 (F := Ideal) (half8 (F := Ideal) f) (slotIx s a j)) (fun s => half2 (F := Ideal) (half4 (F := Ideal) (half8 (F := Ideal) f)) (slotIx s a j))
    (fun s s' hs hs' => half8_at (F := Ideal) f s s' a j hs hs') (fun s s' hs hs' => half4_at (F := Ideal) _ s s' a j hs hs')
    (fun s s' hs hs' => half2_at (F := Ideal) _ s s' a j hs hs'))

/-- The same, of slots known one by one. -/
theorem sumOf_of (f : S16x16x256.Idx → EReal) (g : Fin 16 → EReal) (a : Fin 16) (j : Fin 256) (h : ∀ s, f (slotIx s a j) = g s) :
    sumOf (F := Ideal) f (ix16 a j) = ∑ s : Fin 16, g s :=
  (sumOf_at f a j).trans (Finset.sum_congr (M := EReal) rfl fun s _ => h s)

/-! ## The result -/

variable (m : (ℓ : Loc nD τ sig) → Buf (Elt Ideal) ℓ) (ρ : Dev nD → PrngReg)

/-- A device's operand, as an array of extended reals. -/
def opnd (c : Dev nD) : S256x256.Idx → EReal := m ((c : Thread nD τ).loc main_arg0)

/-- The sum of the devices' operands. -/
def total (i : S256x256.Idx) : EReal := ∑ c : Dev nD, opnd m c i

/-- The operand is staged whole. -/
theorem xstg_eq (c : Dev nD) : xstg (F := Ideal) m ρ c = opnd m c :=
  Memref.read_access_unit_zero (Elt Ideal) main_arg0 (off := fun a => win0_0.index (0 : Fin 1) a * main_arg0.ty.shape.size a)
    (funext fun a => by fin_cases a <;> rfl) (fun a => by fin_cases a <;> decide) _

/-- The result is the sum of the devices' operands. -/
theorem outVal_eq : outVal (F := Ideal) m ρ = total m := funext fun i => by
  have hi : rowIx (rowDev (i 0)) (rowIn (i 0)) (i 1) = i := funext fun b => by
    fin_cases b
    · exact Fin.ext (by show 16 * ((i 0).val / 16) + (i 0).val % 16 = (i 0).val; omega)
    · rfl
  have hs (s : Fin 16) : landed (F := Ideal) m ρ (rowDev (i 0)) (slotIx s (rowIn (i 0)) (i 1)) = opnd m (mate (rowDev (i 0)) s) i := by
    show xstg (F := Ideal) m ρ (mate (rowDev (i 0)) s) (rowIx (rowDev (i 0)) (rowIn (i 0)) (i 1)) = _
    rw [hi, xstg_eq]
  have hm : (∑ s : Fin 16, opnd m (mate (rowDev (i 0)) s) i) = total m i := Equiv.sum_comp (mateEquiv (rowDev (i 0))) fun c => opnd m c i
  exact (sumOf_of (landed (F := Ideal) m ρ (rowDev (i 0))) _ (rowIn (i 0)) (i 1) hs).trans hm

/-- The result's array, when the run is over, is the result. -/
theorem finalA_o (c : Dev nD) : finalA (F := Ideal) m ρ c (1 : Fin 2) = outVal (F := Ideal) m ρ := by
  have h : (win0_1.blk (0 : Fin 1)).view.read (Elt Ideal) (finalA (F := Ideal) m ρ c (1 : Fin 2)) = outVal (F := Ideal) m ρ := by
    unfold finalA
    rw [show cfg0.N = ((0 : Fin 1) : Fin cfg0.N).val + 1 from rfl, (dats (F := Ideal) m ρ 0 c).arrAt_succ (1 : Fin 2) (0 : Fin 1),
      show (cfg0.win (1 : Fin 2)).flush (0 : Fin 1) = true from by decide, if_pos rfl]
    exact View.read_write_univ _ _
  exact (Memref.read_access_unit_zero (Elt Ideal) main_v1 (off := fun a => win0_1.index (0 : Fin 1) a * main_v1.ty.shape.size a)
    (funext fun a => by fin_cases a <;> rfl) (fun a => by fin_cases a <;> decide) _).symm.trans h

/-- The kernel runs; every device's result ends as the sum of the devices' operands, the operands unchanged. -/
theorem run_total : θ_run (defs (F := Ideal)) (onTc (τ := τ) (main (F := Ideal))) ⟨m, fun _ => 0, ρ⟩ fun r => ∀ c : Dev nD,
    r.2.mem ((c : Thread nD τ).loc main_v1) = total m ∧ r.2.mem ((c : Thread nD τ).loc main_arg0) = m ((c : Thread nD τ).loc main_arg0) :=
  (θ_run (defs (F := Ideal)) _ _).mono (fun _ h c => ⟨(h.1 c (1 : Fin 2)).trans ((finalA_o m ρ c).trans (outVal_eq m ρ)), (h.1 c (0 : Fin 2)).trans (finalA_x m ρ c)⟩)
    (run_main (F := Ideal) m ρ)

/-! ## The reference -/

/-- The reference's sum, where every device's operand is its block of rows of the reference's, is the sum of the devices' operands. -/
theorem reference_total (x : Cert.ReferenceIdeal.S4096x256.Idx → EReal)
    (hx : ∀ c : Dev nD, opnd m c = Layout.block ⟨2, ![256, 256]⟩ ⟨2, ![4096, 256]⟩ 0 16 c x) :
    Host.reduceAdd (F := Ideal) (φ := .f32) (shapeCast _ x Cert.ReferenceIdeal.Gen.shapeCasts_S4096x256_S16x256x256)
      (constant Cert.ReferenceIdeal.S_ .f32 0x00000000#32) Cert.ReferenceIdeal.Gen.reducesTo_S16x256x256_S256x256_d0 Cert.ReferenceIdeal.Gen.h_S_ = total m := funext fun i => by
  rw [Host.reduceAdd_apply, Ideal.hostReduceAdd_def]
  refine (Ideal.hostReduceAdd_r3_a0 _ _ _ i).trans ?_
  show Ideal.ofBits .f32 0x00000000#32 + _ = _
  rw [Ideal.ofBits_zero_f32, zero_add]
  refine Finset.sum_congr rfl fun c _ => ?_
  rw [hx c, Layout.block_apply, Pointwise.shapeCast_apply]
  refine congrArg x (Shape.reshapeEquiv_eq_of_rowMajor _ ?_)
  rw [rowMajor_val2 _ 256 rfl, rowMajor_val3 _ (256 * 256) 256 rfl rfl]
  show (c.val * 256 + (i 0).val) * 256 + (i 1).val = c.val * (256 * 256) + (i 0).val * 256 + (i 1).val
  ring

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel runs to the end, its operands unchanged and every counter zero again. -/
theorem kernel_frame : Cert.quiescent_Kernel (hKernel := Cert.Kernel.Gen.facts) := fun m g _ =>
  (θ_run (Cert.Kernel.defs (F := Bits)) _ _).mono (fun _ h => ⟨fun c => (h.1 c (0 : Fin 2)).trans (Cert.KernelProof.finalA_x m g c), h.2⟩)
    (Cert.KernelProof.run_main (F := Bits) m g)

/-- The idealized kernel does the same. -/
theorem ideal_frame : Cert.quiescent_KernelIdeal (hKernelIdeal := Cert.KernelIdeal.Gen.facts) := fun m g _ =>
  (θ_run (Cert.KernelIdeal.defs (F := Ideal)) _ _).mono (fun _ h => ⟨fun c => (h.1 c (0 : Fin 2)).trans (Cert.KernelIdealProof.finalA_x m g c), h.2⟩)
    (Cert.KernelIdealProof.run_main (F := Ideal) m g)

/-- And the reference, which has no semaphores. -/
theorem reference_frame : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- On every device the idealized kernel's result is the reference's: the sum of the 16 blocks. -/
theorem value : Cert.algebraic_KernelIdeal_ReferenceIdeal (hKernelIdeal := Cert.KernelIdeal.Gen.facts) (hReferenceIdeal := Cert.ReferenceIdeal.Gen.facts) :=
  fun m g m' g' _ hx => ⟨Cert.KernelIdealProof.total m, Cert.KernelIdealProof.run_total m g,
    (θ_run (Cert.ReferenceIdeal.defs (F := Ideal)) _ _).mono (fun _ h => ⟨(h 0).1.trans (Cert.KernelIdealProof.reference_total m _ hx), (h 0).2⟩)
      (Cert.ReferenceIdeal.Value.run (F := Ideal) m' g')⟩

theorem claim : Cert.Claim := ⟨Cert.Kernel.Gen.facts, Cert.KernelIdeal.Gen.facts, Cert.ReferenceIdeal.Gen.facts,
  kernel_frame, ideal_frame, reference_frame, trivial, value⟩

end Cert.Proof

end
